-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_finite_inputs [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v4_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v4_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5_0) = v0 c
          ∧ r.2.mem ((c.tc : Thread Cert.ReferenceIdeal.nD Cert.ReferenceIdeal.τ).loc Cert.ReferenceIdeal.main_v5_1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ preserves_Kernel_KernelIdeal
    ∧ algebraic_KernelIdeal_ReferenceIdeal_pre_finite_inputs (hKernelIdeal := hKernelIdeal) (hReferenceIdeal := hReferenceIdeal) (hPre_finite_inputs := hPre_finite_inputs)
-- ==== Pre_finite_inputs.lean ====
abbrev S1x3072x1024 : Shape := ⟨3, ![1, 3072, 1024]⟩
abbrev S1x3072 : Shape := ⟨2, ![1, 3072]⟩
abbrev S8192x1024 : Shape := ⟨2, ![8192, 1024]⟩
abbrev S8192 : Shape := ⟨1, ![8192]⟩
abbrev S3072 : Shape := ⟨1, ![3072]⟩
abbrev S3072x1 : Shape := ⟨2, ![3072, 1]⟩
abbrev S1x8192 : Shape := ⟨2, ![1, 8192]⟩
abbrev S3072x8192 : Shape := ⟨2, ![3072, 8192]⟩
abbrev S_ : Shape := ⟨0, ![]⟩

class Facts : Prop where
  shapeCasts_S1x3072_S3072 : S1x3072.ShapeCasts S3072
  bcast_S3072_S3072x1_0 : S3072.BroadcastsInDim S3072x1 (![0] : Fin 1 → Fin S3072x1.rank)
  bcast_S8192_S1x8192_1 : S8192.BroadcastsInDim S1x8192 (![1] : Fin 1 → Fin S1x8192.rank)
  bcast_S3072x1_S3072x8192_0_1 : S3072x1.BroadcastsInDim S3072x8192 (![0, 1] : Fin 2 → Fin S3072x8192.rank)
  bcast_S1x8192_S3072x8192_0_1 : S1x8192.BroadcastsInDim S3072x8192 (![0, 1] : Fin 2 → Fin S3072x8192.rank)
  bcast_S_S1x3072x1024 : S_.BroadcastsInDim S1x3072x1024 (![] : Fin 0 → Fin S1x3072x1024.rank)
  bcast_S_S8192x1024 : S_.BroadcastsInDim S8192x1024 (![] : Fin 0 → Fin S8192x1024.rank)
  bcast_S_S1x3072 : S_.BroadcastsInDim S1x3072 (![] : Fin 0 → Fin S1x3072.rank)
  bcast_S_S3072x8192 : S_.BroadcastsInDim S3072x8192 (![] : Fin 0 → Fin S3072x8192.rank)

variable [Facts]

def fn_part1 {F : FTy → Type} [FloatOps F] (main_v6 : FVec F S3072x8192 .f32) (main_v11 : IVec S1x3072x1024 1) (main_v16 : IVec S8192x1024 1) (main_v18 : IVec S1x3072 1) : IVec S1x3072x1024 1 × IVec S8192x1024 1 × IVec S1x3072 1 × IVec S3072x8192 1 × IVec S3072x8192 1 :=
  let main_cst_3 : FVec F S_ .f32 := constant S_ .f32 0x51800000#32
  let main_v19 : FVec F S3072x8192 .f32 := broadcastInDim S3072x8192 ![] bcast_S_S3072x8192 main_cst_3
  let main_v20 : IVec S3072x8192 1 := cmpf .ole main_v6 main_v19
  let main_cst_4 : FVec F S_ .f32 := constant S_ .f32 0x00000000#32
  let main_v21 : FVec F S3072x8192 .f32 := broadcastInDim S3072x8192 ![] bcast_S_S3072x8192 main_cst_4
  let main_v22 : IVec S3072x8192 1 := cmpf .oeq main_v6 main_v21
  let main_cst_5 : FVec F S_ .f32 := constant S_ .f32 0x2D000000#32
  let main_v23 : FVec F S3072x8192 .f32 := broadcastInDim S3072x8192 ![] bcast_S_S3072x8192 main_cst_5
  let main_v24 : IVec S3072x8192 1 := cmpf .oge main_v6 main_v23
  let main_v25 : IVec S3072x8192 1 := ori main_v22 main_v24
  (main_v11, main_v16, main_v18, main_v20, main_v25)

def fn {F : FTy → Type} [FloatOps F] (main_arg0 : IVec S1x3072x1024 8) (main_arg1 : FVec F S1x3072 .f32) (main_arg2 : IVec S8192x1024 8) (main_arg3 : FVec F S8192 .f32) : IVec S1x3072x1024 1 × IVec S8192x1024 1 × IVec S1x3072 1 × IVec S3072x8192 1 × IVec S3072x8192 1 :=
  let main_v0 : FVec F S3072 .f32 := shapeCast S3072 main_arg1 shapeCasts_S1x3072_S3072
  let main_v1 : FVec F S3072x1 .f32 := broadcastInDim S3072x1 ![0] bcast_S3072_S3072x1_0 main_v0
  let main_v2 : FVec F S8192 .f32 := Host.absf main_arg3
  let main_v3 : FVec F S1x8192 .f32 := broadcastInDim S1x8192 ![1] bcast_S8192_S1x8192_1 main_v2
  let main_v4 : FVec F S3072x8192 .f32 := broadcastInDim S3072x8192 ![0, 1] bcast_S3072x1_S3072x8192_0_1 main_v1
  let main_v5 : FVec F S3072x8192 .f32 := broadcastInDim S3072x8192 ![0, 1] bcast_S1x8192_S3072x8192_0_1 main_v3
  let main_v6 : FVec F S3072x8192 .f32 := mulf main_v4 main_v5
  let main_c : IVec S_ 8 := constantI S_ 8 127#8
  let main_v7 : IVec S1x3072x1024 8 := broadcastInDim S1x3072x1024 ![] bcast_S_S1x3072x1024 main_c
  let main_v8 : IVec S1x3072x1024 1 := cmpi .ne main_arg0 main_v7
  let main_c_0 : IVec S_ 8 := constantI S_ 8 255#8
  let main_v9 : IVec S1x3072x1024 8 := broadcastInDim S1x3072x1024 ![] bcast_S_S1x3072x1024 main_c_0
  let main_v10 : IVec S1x3072x1024 1 := cmpi .ne main_arg0 main_v9
  let main_v11 : IVec S1x3072x1024 1 := andi main_v8 main_v10
  let main_c_1 : IVec S_ 8 := constantI S_ 8 127#8
  let main_v12 : IVec S8192x1024 8 := broadcastInDim S8192x1024 ![] bcast_S_S8192x1024 main_c_1
  let main_v13 : IVec S8192x1024 1 := cmpi .ne main_arg2 main_v12
  let main_c_2 : IVec S_ 8 := constantI S_ 8 255#8
  let main_v14 : IVec S8192x1024 8 := broadcastInDim S8192x1024 ![] bcast_S_S8192x1024 main_c_2
  let main_v15 : IVec S8192x1024 1 := cmpi .ne main_arg2 main_v14
  let main_v16 : IVec S8192x1024 1 := andi main_v13 main_v15
  let main_cst : FVec F S_ .f32 := constant S_ .f32 0x00000000#32
  let main_v17 : FVec F S1x3072 .f32 := broadcastInDim S1x3072 ![] bcast_S_S1x3072 main_cst
  let main_v18 : IVec S1x3072 1 := cmpf .oge main_arg1 main_v17
  fn_part1 (F := F) main_v6 main_v11 main_v16 main_v18
-- ==== Kernel.lean ====
abbrev S1x3072x1024 : Shape := ⟨3, ![1, 3072, 1024]⟩
abbrev S1x3072 : Shape := ⟨2, ![1, 3072]⟩
abbrev S8192x1024 : Shape := ⟨2, ![8192, 1024]⟩
abbrev S8192 : Shape := ⟨1, ![8192]⟩
abbrev S3072x1024 : Shape := ⟨2, ![3072, 1024]⟩
abbrev S1x8192 : Shape := ⟨2, ![1, 8192]⟩
abbrev S3072x8192 : Shape := ⟨2, ![3072, 8192]⟩
abbrev S256x1024 : Shape := ⟨2, ![256, 1024]⟩
abbrev S1x256 : Shape := ⟨2, ![1, 256]⟩
abbrev S256x8192 : Shape := ⟨2, ![256, 8192]⟩
abbrev S256x128 : Shape := ⟨2, ![256, 128]⟩
abbrev S1024x1024 : Shape := ⟨2, ![1024, 1024]⟩
abbrev S1x1024 : Shape := ⟨2, ![1, 1024]⟩
abbrev S128x128 : Shape := ⟨2, ![128, 128]⟩
abbrev S1x128 : Shape := ⟨2, ![1, 128]⟩
abbrev S128 : Shape := ⟨1, ![128]⟩
abbrev S128x1 : Shape := ⟨2, ![128, 1]⟩
abbrev S128x256 : Shape := ⟨2, ![128, 256]⟩
abbrev S128x1024 : Shape := ⟨2, ![128, 1024]⟩

abbrev nBuf : Space → Nat
  | .hbm => 10
  | .vmem => 11
  | .smem => 0
  | _ => 0

abbrev bufTy : (tb : Table) → Fin (tcTables nBuf tb) → BufTy
  | .hbm, ⟨0, _⟩ => ⟨S1x3072x1024, .i8⟩
  | .hbm, ⟨1, _⟩ => ⟨S1x3072, .f32⟩
  | .hbm, ⟨2, _⟩ => ⟨S8192x1024, .i8⟩
  | .hbm, ⟨3, _⟩ => ⟨S8192, .f32⟩
  | .hbm, ⟨4, _⟩ => ⟨S1x3072x1024, .fp8e4m3⟩
  | .hbm, ⟨5, _⟩ => ⟨S8192x1024, .fp8e4m3⟩
  | .hbm, ⟨6, _⟩ => ⟨S3072x1024, .fp8e4m3⟩
  | .hbm, ⟨7, _⟩ => ⟨S1x8192, .f32⟩
  | .hbm, ⟨8, _⟩ => ⟨S3072x8192, .fp8e5m2⟩
  | .hbm, ⟨9, _⟩ => ⟨S1x3072, .f32⟩
  | .local _ .vmem, ⟨0, _⟩ => ⟨S256x1024, .fp8e4m3⟩
  | .local _ .vmem, ⟨1, _⟩ => ⟨S256x1024, .fp8e4m3⟩
  | .local _ .vmem, ⟨2, _⟩ => ⟨S1x256, .f32⟩
  | .local _ .vmem, ⟨3, _⟩ => ⟨S1x256, .f32⟩
  | .local _ .vmem, ⟨4, _⟩ => ⟨S8192x1024, .fp8e4m3⟩
  | .local _ .vmem, ⟨5, _⟩ => ⟨S1x8192, .f32⟩
  | .local _ .vmem, ⟨6, _⟩ => ⟨S256x8192, .fp8e5m2⟩
  | .local _ .vmem, ⟨7, _⟩ => ⟨S256x8192, .fp8e5m2⟩
  | .local _ .vmem, ⟨8, _⟩ => ⟨S1x256, .f32⟩
  | .local _ .vmem, ⟨9, _⟩ => ⟨S1x256, .f32⟩
  | .local _ .vmem, ⟨10, _⟩ => ⟨S256x8192, .f32⟩
  | _, _ => ⟨S1x3072x1024, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![12], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S256x1024 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8192x1024 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x8192 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x8192 .fp8e5m2 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S1x3072x1024 : Shape := ⟨3, ![1, 3072, 1024]⟩
abbrev S1x3072 : Shape := ⟨2, ![1, 3072]⟩
abbrev S8192x1024 : Shape := ⟨2, ![8192, 1024]⟩
abbrev S8192 : Shape := ⟨1, ![8192]⟩
abbrev S3072x1024 : Shape := ⟨2, ![3072, 1024]⟩
abbrev S3072x1 : Shape := ⟨2, ![3072, 1]⟩
abbrev S1x8192 : Shape := ⟨2, ![1, 8192]⟩
abbrev S3072x8192 : Shape := ⟨2, ![3072, 8192]⟩
abbrev S3072 : Shape := ⟨1, ![3072]⟩

abbrev nBuf : Space → Nat
  | .hbm => 11
  | .vmem => 6
  | .smem => 0
  | _ => 0

abbrev bufTy : (tb : Table) → Fin (tcTables nBuf tb) → BufTy
  | .hbm, ⟨0, _⟩ => ⟨S1x3072x1024, .i8⟩
  | .hbm, ⟨1, _⟩ => ⟨S1x3072, .f32⟩
  | .hbm, ⟨2, _⟩ => ⟨S8192x1024, .i8⟩
  | .hbm, ⟨3, _⟩ => ⟨S8192, .f32⟩
  | .hbm, ⟨4, _⟩ => ⟨S1x3072x1024, .fp8e4m3⟩
  | .hbm, ⟨5, _⟩ => ⟨S8192x1024, .fp8e4m3⟩
  | .hbm, ⟨6, _⟩ => ⟨S3072x1024, .fp8e4m3⟩
  | .hbm, ⟨7, _⟩ => ⟨S3072x1, .f32⟩
  | .hbm, ⟨8, _⟩ => ⟨S1x8192, .f32⟩
  | .hbm, ⟨9, _⟩ => ⟨S3072x8192, .fp8e5m2⟩
  | .hbm, ⟨10, _⟩ => ⟨S1x3072, .f32⟩
  | .local _ .vmem, ⟨0, _⟩ => ⟨S3072x1024, .fp8e4m3⟩
  | .local _ .vmem, ⟨1, _⟩ => ⟨S3072x1, .f32⟩
  | .local _ .vmem, ⟨2, _⟩ => ⟨S8192x1024, .fp8e4m3⟩
  | .local _ .vmem, ⟨3, _⟩ => ⟨S1x8192, .f32⟩
  | .local _ .vmem, ⟨4, _⟩ => ⟨S3072x8192, .fp8e5m2⟩
  | .local _ .vmem, ⟨5, _⟩ => ⟨S1x3072, .f32⟩
  | _, _ => ⟨S1x3072x1024, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S3072x1024 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3072x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8192x1024 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x8192 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S3072x8192 .fp8e5m2 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x3072 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.Inputs.lean ====
/- The precondition read at an index. -/
module

public import proofs.«01_k».proof.Defs
public import proofs.«01_k».proof.Proof.Gen.Pre_finite_inputs
public import Idealize.ShloMosaic.Lib.Pointwise

@[expose] public section

set_option maxRecDepth 16384

noncomputable section

namespace Cert.Pre_finite_inputs.Gen

open Cert.Pre_finite_inputs Idealize.ShloMosaic

theorem byte_of (a : BitVec 8) (h : IntOp.andi (IntOp.cmpi .ne a 127#8) (IntOp.cmpi .ne a 255#8) = 1#1) : a ≠ 127#8 ∧ a ≠ 255#8 := by
  revert h
  have dec : ∀ v : Fin 256, IntOp.andi (IntOp.cmpi .ne (BitVec.ofNat 8 v.val) 127#8) (IntOp.cmpi .ne (BitVec.ofNat 8 v.val) 255#8) = 1#1 →
      BitVec.ofNat 8 v.val ≠ 127#8 ∧ BitVec.ofNat 8 v.val ≠ 255#8 := by decide +kernel
  have hb : BitVec.ofNat 8 a.toNat = a := BitVec.eq_of_toNat_eq (by simp)
  have := dec ⟨a.toNat, a.isLt⟩
  rwa [show (⟨a.toNat, a.isLt⟩ : Fin 256).val = a.toNat from rfl, hb] at this

variable (a0 : IVec S1x3072x1024 8) (a1 : FVec Ideal S1x3072 .f32) (a2 : IVec S8192x1024 8) (a3 : FVec Ideal S8192 .f32)

theorem mask0 (i : S1x3072x1024.Idx) (h : (fn a0 a1 a2 a3).1 i = 1#1) : a0 i ≠ 127#8 ∧ a0 i ≠ 255#8 := byte_of _ h

theorem mask1 (i : S8192x1024.Idx) (h : (fn a0 a1 a2 a3).2.1 i = 1#1) : a2 i ≠ 127#8 ∧ a2 i ≠ 255#8 := byte_of _ h

theorem mask2 (s : Fin 3072) (h : (fn a0 a1 a2 a3).2.2.1 (ix2 0 s) = 1#1) : 0 ≤ a1 (ix2 0 s) := by
  have e : (fn a0 a1 a2 a3).2.2.1 = cmpf .oge a1 (broadcastInDim S1x3072 ![] bcast_S_S1x3072 (constant S_ .f32 0x00000000#32)) := rfl
  rw [e] at h
  revert h
  pointwise
  intro h
  by_contra hc
  simp [hc] at h

theorem prod_apply (s : Fin 3072) (n : Fin 8192) :
    mulf (broadcastInDim S3072x8192 ![0, 1] bcast_S3072x1_S3072x8192_0_1 (broadcastInDim S3072x1 ![0] bcast_S3072_S3072x1_0 (shapeCast S3072 a1 shapeCasts_S1x3072_S3072)))
      (broadcastInDim S3072x8192 ![0, 1] bcast_S1x8192_S3072x8192_0_1 (broadcastInDim S1x8192 ![1] bcast_S8192_S1x8192_1 (Host.absf a3))) (ix2 s n)
      = a1 (ix2 0 s) * max (a3 (ix1 n)) (-(a3 (ix1 n))) := by
  pointwise
  rfl

theorem mask3 (s : Fin 3072) (n : Fin 8192) (h : (fn a0 a1 a2 a3).2.2.2.1 (ix2 s n) = 1#1) :
    a1 (ix2 0 s) * max (a3 (ix1 n)) (-(a3 (ix1 n))) ≤ Ideal.ofBits FTy.f32 0x51800000#32 := by
  rw [← prod_apply]
  have e : (fn a0 a1 a2 a3).2.2.2.1 = cmpf .ole (mulf (broadcastInDim S3072x8192 ![0, 1] bcast_S3072x1_S3072x8192_0_1 (broadcastInDim S3072x1 ![0] bcast_S3072_S3072x1_0 (shapeCast S3072 a1 shapeCasts_S1x3072_S3072)))
      (broadcastInDim S3072x8192 ![0, 1] bcast_S1x8192_S3072x8192_0_1 (broadcastInDim S1x8192 ![1] bcast_S8192_S1x8192_1 (Host.absf a3))))
      (broadcastInDim S3072x8192 ![] bcast_S_S3072x8192 (constant S_ .f32 0x51800000#32)) := rfl
  rw [e] at h
  revert h
  generalize mulf (broadcastInDim S3072x8192 ![0, 1] bcast_S3072x1_S3072x8192_0_1 (broadcastInDim S3072x1 ![0] bcast_S3072_S3072x1_0 (shapeCast S3072 a1 shapeCasts_S1x3072_S3072)))
      (broadcastInDim S3072x8192 ![0, 1] bcast_S1x8192_S3072x8192_0_1 (broadcastInDim S1x8192 ![1] bcast_S8192_S1x8192_1 (Host.absf a3))) = v
  pointwise
  intro h
  by_contra hc
  simp [hc] at h

/-- A value passes the last mask's test where it is zero or at least the bound. -/
theorem low_of (v : FVec Ideal S3072x8192 .f32) (i : S3072x8192.Idx)
    (h : ori (cmpf .oeq v (broadcastInDim S3072x8192 ![] bcast_S_S3072x8192 (constant S_ .f32 0x00000000#32)))
      (cmpf .oge v (broadcastInDim S3072x8192 ![] bcast_S_S3072x8192 (constant S_ .f32 0x2D000000#32))) i = 1#1) :
    v i = 0 ∨ Ideal.ofBits FTy.f32 0x2D000000#32 ≤ v i := by
  revert h
  pointwise
  intro h
  by_contra hc
  rw [not_or] at hc
  simp [hc.1, hc.2] at h
  exact absurd h (by decide)

theorem mask4 (s : Fin 3072) (n : Fin 8192) (h : (fn a0 a1 a2 a3).2.2.2.2 (ix2 s n) = 1#1) :
    a1 (ix2 0 s) * max (a3 (ix1 n)) (-(a3 (ix1 n))) = 0 ∨ Ideal.ofBits FTy.f32 0x2D000000#32 ≤ a1 (ix2 0 s) * max (a3 (ix1 n)) (-(a3 (ix1 n))) := by
  rw [← prod_apply]
  exact low_of _ _ h

end Cert.Pre_finite_inputs.Gen

end
-- ==== Proof.Scalars.lean ====
/- The scalar words of one row, as the kernel forms them: the exponent field counted by thresholds, the power-of-two
   exponent, the power of two built from its bits, and the clip of a code. -/
module

public import Idealize.ShloMosaic.Lib.Pointwise

@[expose] public section

noncomputable section

namespace Cert.Sq

open Idealize.ShloMosaic

/-- The exponent field of `r`: the number of the 256 thresholds `k << 23` that are at most `r`, less one. -/
def expField (r : EReal) : BitVec 32 :=
  IntOp.subi (Finset.fold IntOp.addi (0#32) (fun x : Fin 256 =>
    if r < Ideal.ofBits FTy.f32 (IntOp.shli ArithUnit.vector (BitVec.ofNat 32 ↑x) 23#32) then 0#32 else 1#32)
    Finset.univ) 1#32

/-- The exponent of the row's power of two: zero where the field is zero, the field less 126 elsewhere. -/
def expo (r : EReal) : BitVec 32 :=
  Scalar.select (IntOp.cmpi CmpIPredicate.eq (expField r) 0#32) (0#32) (IntOp.subi (expField r) 126#32)

/-- The f32 whose exponent field is `e + 127` and whose fraction is zero. -/
def pow2w (e : BitVec 32) : EReal :=
  Ideal.ofBits FTy.f32 (IntOp.shli ArithUnit.vector (IntOp.addi e 127#32) 23#32)

/-- A row's largest `y` over the largest finite e5m2: the square of the positive part, times the f32 nearest 1/57344. -/
def rowArg (h : EReal) : EReal :=
  max h 0 * max h 0 * Ideal.ofBits FTy.f32 932333861#32

/-- A value clipped to the finite e5m2 range. -/
def clip (v : EReal) : EReal :=
  min (Ideal.ofBits FTy.f32 1197473792#32) (max (Ideal.ofBits FTy.f32 3344957440#32) v)

end Cert.Sq

end
-- ==== Proof.Row.lean ====
/- One row of the two results, twice: as the kernel computes it and as the reference states it. -/
module

public import proofs.«01_k».proof.Proof.Scalars

@[expose] public section

noncomputable section

namespace Cert.Sq

open Idealize.ShloMosaic

/-- The product of a row of activations with row `n` of the weights. -/
def dot (x : Fin 1024 → EReal) (w : Fin 8192 → Fin 1024 → EReal) (n : Fin 8192) : EReal := ∑ k : Fin 1024, x k * w n k

/-- The kernel's product, scaled by the channel's scale. -/
def scaled (x : Fin 1024 → EReal) (w : Fin 8192 → Fin 1024 → EReal) (ws : Fin 8192 → EReal) (n : Fin 8192) : EReal := dot x w n * ws n

/-- What the kernel takes the exponent of. -/
def kArg (x : Fin 1024 → EReal) (xs : EReal) (w : Fin 8192 → Fin 1024 → EReal) (ws : Fin 8192 → EReal) : EReal :=
  rowArg (Finset.fold max 0 (scaled x w ws) Finset.univ * xs)

/-- The kernel's row scale. -/
def kScale (x : Fin 1024 → EReal) (xs : EReal) (w : Fin 8192 → Fin 1024 → EReal) (ws : Fin 8192 → EReal) : EReal :=
  pow2w (expo (kArg x xs w ws))

/-- The kernel's code at channel `n`. -/
def kCode (x : Fin 1024 → EReal) (xs : EReal) (w : Fin 8192 → Fin 1024 → EReal) (ws : Fin 8192 → EReal) (n : Fin 8192) : EReal :=
  clip (max (scaled x w ws n) 0 * max (scaled x w ws n) 0 * (pow2w (IntOp.subi (0#32) (expo (kArg x xs w ws))) * xs * xs))

/-- The squared activation of the reference. -/
def sqAct (x : Fin 1024 → EReal) (xs : EReal) (w : Fin 8192 → Fin 1024 → EReal) (ws : Fin 8192 → EReal) (n : Fin 8192) : EReal :=
  max (dot x w n * (xs * ws n)) 0 * max (dot x w n * (xs * ws n)) 0

/-- The row's largest squared activation. -/
def top (x : Fin 1024 → EReal) (xs : EReal) (w : Fin 8192 → Fin 1024 → EReal) (ws : Fin 8192 → EReal) : EReal :=
  Finset.fold max ⊥ (fun n => max (sqAct x xs w ws n) (-(sqAct x xs w ws n))) Finset.univ

/-- The reference's exponent of a row whose largest squared activation is `a`: zero at zero, elsewhere one more than the whole part of
    the base-two logarithm of `a` over the largest finite e5m2. -/
def refExpo (a : EReal) : EReal :=
  if a = 0 then 0
  else Ideal.liftRound Int.floor (Ideal.div (Ideal.log (a * Ideal.ofBits FTy.f32 932333861#32)) (Ideal.log (Ideal.ofBits FTy.f32 1073741824#32))) + 1

/-- The reference's row scale. -/
def rScale (x : Fin 1024 → EReal) (xs : EReal) (w : Fin 8192 → Fin 1024 → EReal) (ws : Fin 8192 → EReal) : EReal :=
  Ideal.exp2 (refExpo (top x xs w ws))

/-- The reference's code at channel `n`. -/
def rCode (x : Fin 1024 → EReal) (xs : EReal) (w : Fin 8192 → Fin 1024 → EReal) (ws : Fin 8192 → EReal) (n : Fin 8192) : EReal :=
  clip (sqAct x xs w ws n * Ideal.exp2 (0 - refExpo (top x xs w ws)))

end Cert.Sq

end
-- ==== Proof.Pow2.lean ====
/- The exponent: counting thresholds gives the exponent field, and the power of two built from bits is the power of two of the
   reference's exponent. -/
module

public import proofs.«01_k».proof.Proof.Row

@[expose] public section

noncomputable section

namespace Cert.Sq

open Idealize.ShloMosaic

/-- The f32 whose exponent field is `k` and whose fraction and sign are zero. -/
def thr (k : ℕ) : EReal := Ideal.ofBits FTy.f32 (IntOp.shli ArithUnit.vector (BitVec.ofNat 32 k) 23#32)

theorem field_of (k : ℕ) (hk : k < 256) :
    ((IntOp.shli ArithUnit.vector (BitVec.ofNat 32 k) 23#32).extractLsb' 31 1 = 0#1)
    ∧ ((IntOp.shli ArithUnit.vector (BitVec.ofNat 32 k) 23#32).extractLsb' 23 8).toNat = k
    ∧ ((IntOp.shli ArithUnit.vector (BitVec.ofNat 32 k) 23#32).extractLsb' 0 23).toNat = 0 := by
  have h : ∀ k : Fin 256, ((IntOp.shli ArithUnit.vector (BitVec.ofNat 32 k.val) 23#32).extractLsb' 31 1 = 0#1)
      ∧ ((IntOp.shli ArithUnit.vector (BitVec.ofNat 32 k.val) 23#32).extractLsb' 23 8).toNat = k.val
      ∧ ((IntOp.shli ArithUnit.vector (BitVec.ofNat 32 k.val) 23#32).extractLsb' 0 23).toNat = 0 := by decide +kernel
  exact h ⟨k, hk⟩

theorem thr_zero : thr 0 = 0 := by
  obtain ⟨h1, h2, h3⟩ := field_of 0 (by omega)
  simp only [thr, Ideal.ofBits, Ideal.ieee]
  simp [h1, h2, h3]

theorem thr_normal (k : ℕ) (h0 : 1 ≤ k) (hk : k ≤ 254) : thr k = (((2 : ℝ) ^ ((k : ℤ) - 127) : ℝ) : EReal) := by
  obtain ⟨h1, h2, h3⟩ := field_of k (by omega)
  simp only [thr, Ideal.ofBits, Ideal.ieee]
  rw [h1, h2, h3]
  rw [if_neg (by omega), if_neg (by omega)]
  refine congrArg Real.toEReal ?_
  simp only [show (0#1 == 1#1) = false from rfl, Bool.false_eq_true, if_false, one_mul, add_zero, Nat.cast_pow, Nat.cast_ofNat]
  rw [← zpow_natCast, ← zpow_add₀ (by norm_num)]
  refine congrArg (fun e : ℤ => (2 : ℝ) ^ e) ?_
  norm_num
  try ring

theorem thr_top : thr 255 = ⊤ := by
  obtain ⟨h1, h2, h3⟩ := field_of 255 (by omega)
  simp only [thr, Ideal.ofBits, Ideal.ieee]
  rw [h1, h2, h3]
  simp

/-- The fold counts. -/
theorem fold_count {ι : Type} (p : ι → Prop) [DecidablePred p] (S : Finset ι) :
    S.fold IntOp.addi (0#32) (fun k => if p k then 0#32 else 1#32) = BitVec.ofNat 32 (S.filter fun k => ¬ p k).card := by
  classical
  induction S using Finset.induction_on with
  | empty => rfl
  | insert a S ha ih =>
    rw [Finset.fold_insert ha, ih, Finset.filter_insert]
    by_cases h : p a
    · rw [if_pos h, if_neg (not_not.mpr h)]
      show 0#32 + _ = _
      rw [BitVec.zero_add]
    · rw [if_neg h, if_pos h, Finset.card_insert_of_notMem (fun hm => ha (Finset.mem_filter.1 hm).1)]
      show 1#32 + _ = _
      rw [BitVec.ofNat_add, BitVec.add_comm]

/-- The number of thresholds at most `r`, where the first `n` are and the others are not. -/
theorem expField_of (r : EReal) (n : ℕ) (hn : n ≤ 256) (h : ∀ k : ℕ, k < 256 → (r < thr k ↔ n ≤ k)) :
    expField r = IntOp.subi (BitVec.ofNat 32 n) 1#32 := by
  unfold expField
  refine congrArg (fun v => IntOp.subi v 1#32) ?_
  rw [fold_count (fun x : Fin 256 => r < Ideal.ofBits FTy.f32 (IntOp.shli ArithUnit.vector (BitVec.ofNat 32 ↑x) 23#32))]
  congr 1
  have e : (Finset.univ.filter fun x : Fin 256 => ¬ (r < Ideal.ofBits FTy.f32 (IntOp.shli ArithUnit.vector (BitVec.ofNat 32 ↑x) 23#32)))
      = Finset.univ.filter fun x : Fin 256 => x.val < n := by
    ext x
    simp only [Finset.mem_filter, Finset.mem_univ, true_and]
    rw [show Ideal.ofBits FTy.f32 (IntOp.shli ArithUnit.vector (BitVec.ofNat 32 ↑x) 23#32) = thr x from rfl, h x x.isLt]
    omega
  rw [e, Fin.card_filter_val_lt]
  omega

theorem f32_two : Ideal.ofBits FTy.f32 1073741824#32 = ((2 : ℝ) : EReal) := by
  have h := thr_normal 128 (by omega) (by omega)
  rw [show (((128 : ℕ) : ℤ) - 127) = 1 by norm_num, zpow_one] at h
  exact h

/-- The power of two built from bits, where the exponent plus 127 is the word `k`. -/
theorem pow2w_of (e : BitVec 32) (k : ℕ) (h : IntOp.addi e 127#32 = BitVec.ofNat 32 k) : pow2w e = thr k := by
  unfold pow2w thr
  rw [h]

/-- Below the smallest normal: exponent zero. -/
theorem small_expo (r : ℝ) (h0 : 0 ≤ r) (h1 : r < (2 : ℝ) ^ (-126 : ℤ)) : expo (r : EReal) = 0#32 := by
  have e : expField (r : EReal) = 0#32 := by
    rw [expField_of _ 1 (by omega)]
    · rfl
    · intro k hk
      rcases Nat.eq_zero_or_pos k with rfl | hp
      · rw [thr_zero]
        simp [h0]
      · refine iff_of_true ?_ hp
        rcases Nat.lt_or_ge k 255 with h | h
        · rw [thr_normal k hp (by omega), EReal.coe_lt_coe_iff]
          exact lt_of_lt_of_le h1 (zpow_le_zpow_right₀ (by norm_num) (by omega))
        · obtain rfl : k = 255 := by omega
          rw [thr_top]
          exact EReal.coe_lt_top r
  unfold expo
  rw [e]
  rfl

/-- At a normal value with logarithm `E`: the field is `E + 127`. -/
theorem normal_field (r : ℝ) (E : ℤ) (hE : (2 : ℝ) ^ E ≤ r) (hE' : r < (2 : ℝ) ^ (E + 1)) (hlo : -126 ≤ E) (hhi : E ≤ 125) (n : ℕ) (hn : (n : ℤ) = E + 127) :
    expField (r : EReal) = BitVec.ofNat 32 n := by
  have hr : (0 : ℝ) < r := lt_of_lt_of_le (by positivity) hE
  rw [expField_of _ (n + 1) (by omega)]
  · apply BitVec.eq_of_toNat_eq
    simp only [IntOp.subi, BitVec.toNat_sub, BitVec.toNat_ofNat]
    omega
  · intro k hk
    rcases Nat.eq_zero_or_pos k with rfl | hp
    · rw [thr_zero]
      refine iff_of_false ?_ (by omega)
      simp [hr.le]
    · rcases Nat.lt_or_ge k 255 with h | h
      · rw [thr_normal k hp (by omega), EReal.coe_lt_coe_iff]
        constructor
        · intro hlt
          by_contra hc
          have : (2 : ℝ) ^ ((k : ℤ) - 127) ≤ (2 : ℝ) ^ E := zpow_le_zpow_right₀ (by norm_num) (by omega)
          linarith
        · intro hle
          have : (2 : ℝ) ^ (E + 1) ≤ (2 : ℝ) ^ ((k : ℤ) - 127) := zpow_le_zpow_right₀ (by norm_num) (by omega)
          linarith
      · obtain rfl : k = 255 := by omega
        rw [thr_top]
        exact iff_of_true (EReal.coe_lt_top r) (by omega)

/-- So the exponent is `E + 1`, and the two powers of two are those of it. -/
theorem normal_pow (r : ℝ) (E : ℤ) (hE : (2 : ℝ) ^ E ≤ r) (hE' : r < (2 : ℝ) ^ (E + 1)) (hlo : -126 ≤ E) (hhi : E ≤ 125) :
    pow2w (expo (r : EReal)) = (((2 : ℝ) ^ (E + 1) : ℝ) : EReal)
    ∧ pow2w (IntOp.subi 0#32 (expo (r : EReal))) = (((2 : ℝ) ^ (-(E + 1)) : ℝ) : EReal) := by
  obtain ⟨n, hn⟩ : ∃ n : ℕ, (n : ℤ) = E + 127 := ⟨(E + 127).toNat, by omega⟩
  have hf := normal_field r E hE hE' hlo hhi n hn
  have he : expo (r : EReal) = BitVec.ofNat 32 n - 126#32 := by
    unfold expo
    rw [hf]
    have hne : (BitVec.ofNat 32 n == 0#32) = false := by
      rw [beq_eq_false_iff_ne]
      intro e
      have := congrArg BitVec.toNat e
      simp only [BitVec.toNat_ofNat] at this
      omega
    simp [Scalar.select, IntOp.cmpi, hne, IntOp.subi]
  rw [he]
  constructor
  · rw [pow2w_of _ (n + 1), thr_normal _ (by omega) (by omega)]
    · refine congrArg (fun e : ℤ => (((2 : ℝ) ^ e : ℝ) : EReal)) ?_
      omega
    · apply BitVec.eq_of_toNat_eq
      simp only [IntOp.addi, BitVec.toNat_sub, BitVec.toNat_add, BitVec.toNat_ofNat]
      omega
  · rw [pow2w_of _ (253 - n), thr_normal _ (by omega) (by omega)]
    · refine congrArg (fun e : ℤ => (((2 : ℝ) ^ e : ℝ) : EReal)) ?_
      omega
    · apply BitVec.eq_of_toNat_eq
      simp only [IntOp.addi, IntOp.subi, BitVec.toNat_sub, BitVec.toNat_add, BitVec.toNat_ofNat]
      omega

theorem exp2_int (e : ℤ) : Ideal.exp2 (((e : ℝ)) : EReal) = (((2 : ℝ) ^ e : ℝ) : EReal) := by
  show ((Real.rpow 2 (e : ℝ) : ℝ) : EReal) = _
  rw [Real.rpow_eq_pow, Real.rpow_intCast]

/-- The whole part of the base-two logarithm of `r`. -/
def lg (r : ℝ) : ℤ := ⌊Real.log r * (Real.log 2)⁻¹⌋

theorem lg_le (r : ℝ) (hr : 0 < r) : (2 : ℝ) ^ lg r ≤ r := by
  have h2 : 0 < Real.log 2 := Real.log_pos (by norm_num)
  rw [← Real.log_le_log_iff (by positivity) hr, Real.log_zpow, ← le_div_iff₀ h2, div_eq_mul_inv]
  exact Int.floor_le _

theorem lt_lg (r : ℝ) (hr : 0 < r) : r < (2 : ℝ) ^ (lg r + 1) := by
  have h2 : 0 < Real.log 2 := Real.log_pos (by norm_num)
  rw [← Real.log_lt_log_iff hr (by positivity), Real.log_zpow, ← div_lt_iff₀ h2, div_eq_mul_inv]
  push_cast
  exact Int.lt_floor_add_one _

theorem floor_log (r : ℝ) (hr : 0 < r) :
    Ideal.liftRound Int.floor (Ideal.div (Ideal.log (r : EReal)) (Ideal.log ((2 : ℝ) : EReal))) = (((lg r : ℤ) : ℝ) : EReal) := by
  have h2 : Real.log 2 ≠ 0 := (Real.log_pos (by norm_num)).ne'
  have e1 : Ideal.log (r : EReal) = ((Real.log r : ℝ) : EReal) := if_neg (not_le.mpr hr)
  have e2 : Ideal.log ((2 : ℝ) : EReal) = ((Real.log 2 : ℝ) : EReal) := if_neg (by norm_num)
  rw [e1, e2]
  unfold Ideal.div
  rw [if_neg (by exact_mod_cast h2), ← EReal.coe_inv, ← EReal.coe_mul]
  rfl

/-- The two powers of two of the kernel are those of the reference's exponent, at zero and at a real argument from `2 ^ -126` to below
    `2 ^ 126`. -/
theorem pow2_eq (a : EReal) (r : ℝ) (ha : a * Ideal.ofBits FTy.f32 932333861#32 = (r : EReal)) (h1 : r < (2 : ℝ) ^ (126 : ℤ))
    (h2 : a = 0 ∨ (2 : ℝ) ^ (-126 : ℤ) ≤ r) :
    pow2w (expo (r : EReal)) = Ideal.exp2 (refExpo a) ∧ pow2w (IntOp.subi 0#32 (expo (r : EReal))) = Ideal.exp2 (0 - refExpo a) := by
  unfold refExpo
  rw [ha, f32_two]
  rcases h2 with hz | hs'
  · have hr : r = 0 := by
      rw [hz, zero_mul] at ha
      exact (EReal.coe_eq_zero.mp ha.symm)
    rw [if_pos hz, small_expo r hr.ge (hr.trans_lt (by positivity))]
    have z := exp2_int 0
    rw [Int.cast_zero, EReal.coe_zero, zpow_zero] at z
    have one : pow2w 0#32 = ((1 : ℝ) : EReal) := by
      rw [pow2w_of _ 127 rfl, thr_normal _ (by omega) (by omega)]
      simp
    refine ⟨one.trans z.symm, ?_⟩
    rw [sub_zero, z, ← one]
    rfl
  · have hr : 0 < r := lt_of_lt_of_le (by positivity) hs'
    have ha' : ¬ a = 0 := fun h => by
      rw [h, zero_mul] at ha
      exact hr.ne' (EReal.coe_eq_zero.mp ha.symm)
    rw [if_neg ha', floor_log r hr]
    have b1 := lg_le r hr
    have b2 := lt_lg r hr
    have l1 : -126 ≤ lg r := by
      have : (2 : ℝ) ^ (-126 : ℤ) < (2 : ℝ) ^ (lg r + 1) := lt_of_le_of_lt hs' b2
      rw [zpow_lt_zpow_iff_right₀ (by norm_num)] at this
      omega
    have l2 : lg r ≤ 125 := by
      have : (2 : ℝ) ^ (lg r) < (2 : ℝ) ^ (126 : ℤ) := lt_of_le_of_lt b1 h1
      rw [zpow_lt_zpow_iff_right₀ (by norm_num)] at this
      omega
    obtain ⟨p1, p2⟩ := normal_pow r _ b1 b2 l1 l2
    have s1 : (((lg r : ℤ) : ℝ) : EReal) + 1 = (((lg r + 1 : ℤ) : ℝ) : EReal) := by
      push_cast
      rfl
    have s2 : (0 : EReal) - (((lg r + 1 : ℤ) : ℝ) : EReal) = (((-(lg r + 1) : ℤ) : ℝ) : EReal) := by
      rw [zero_sub, ← EReal.coe_neg, Int.cast_neg]
    rw [s1, s2, exp2_int, exp2_int]
    exact ⟨p1, p2⟩

end Cert.Sq

end
-- ==== Proof.Bounds.lean ====
/- Bounds: what an activation or weight byte denotes, a product of a row with a channel, and a row's largest squared activation. -/
module

public import proofs.«01_k».proof.Proof.Pow2

@[expose] public section

noncomputable section

namespace Cert.Sq

open Idealize.ShloMosaic

theorem coe_max (a b : ℝ) : ((max a b : ℝ) : EReal) = max (a : EReal) (b : EReal) := EReal.coe_strictMono.monotone.map_max

/-- A value of an activation or a weight: a multiple of `2 ^ -9` of size at most 448. -/
def Code (v : EReal) : Prop := ∃ a : ℝ, v = (a : EReal) ∧ |a| ≤ 448 ∧ ∃ z : ℤ, a = z * (2 : ℝ) ^ (-9 : ℤ)

theorem sign_int (p : Prop) [Decidable p] : ∃ s : ℤ, (if p then (-1 : ℝ) else 1) = s ∧ |(s : ℝ)| = 1 := by
  by_cases h : p
  · exact ⟨-1, by simp [h], by simp⟩
  · exact ⟨1, by simp [h], by simp⟩

/-- A byte other than the two that are no number denotes such a value. -/
theorem e4m3_bound (b : BitVec 8) (h1 : b ≠ 127#8) (h2 : b ≠ 255#8) : Code (Ideal.ofBits .fp8e4m3 b) := by
  have dec : ∀ v : Fin 256, BitVec.ofNat 8 v.val ≠ 127#8 → BitVec.ofNat 8 v.val ≠ 255#8 →
      ¬ (((BitVec.ofNat 8 v.val).extractLsb' 3 4).toNat = 15 ∧ ((BitVec.ofNat 8 v.val).extractLsb' 0 3).toNat = 7) := by decide +kernel
  have hb : BitVec.ofNat 8 b.toNat = b := BitVec.eq_of_toNat_eq (by simp)
  have hn := dec ⟨b.toNat, b.isLt⟩ (by show BitVec.ofNat 8 b.toNat ≠ _; rwa [hb]) (by show BitVec.ofNat 8 b.toNat ≠ _; rwa [hb])
  rw [show (⟨b.toNat, b.isLt⟩ : Fin 256).val = b.toNat from rfl, hb] at hn
  have hex : (b.extractLsb' 3 4).toNat < 16 := (b.extractLsb' 3 4).isLt
  have hfr : (b.extractLsb' 0 3).toNat < 8 := (b.extractLsb' 0 3).isLt
  show Code (Ideal.e4m3fn b)
  unfold Code Ideal.e4m3fn
  dsimp only
  generalize (b.extractLsb' 3 4).toNat = ex at *
  generalize (b.extractLsb' 0 3).toNat = fr at *
  obtain ⟨s, hs, hs1⟩ := sign_int ((b.extractLsb' 7 1 == 1#1) = true)
  simp only [hs]
  rw [if_neg hn]
  by_cases h0 : ex = 0
  · rw [if_pos h0]
    refine ⟨_, rfl, ?_, s * fr, by push_cast; ring⟩
    rw [abs_mul, abs_mul, hs1, one_mul, Nat.abs_cast, abs_of_pos (by positivity)]
    have f : (fr : ℝ) ≤ 7 := by exact_mod_cast (by omega : fr ≤ 7)
    have z : (2 : ℝ) ^ (-9 : ℤ) ≤ 1 := zpow_le_one_of_nonpos₀ (by norm_num) (by norm_num)
    have z0 : (0 : ℝ) < (2 : ℝ) ^ (-9 : ℤ) := by positivity
    nlinarith
  · rw [if_neg h0]
    have grid : (2 : ℝ) ^ ((ex : ℤ) - 10) = ((2 ^ (ex - 1) : ℕ) : ℝ) * (2 : ℝ) ^ (-9 : ℤ) := by
      rw [Nat.cast_pow, Nat.cast_ofNat, ← zpow_natCast, ← zpow_add₀ (by norm_num)]
      refine congrArg (fun e : ℤ => (2 : ℝ) ^ e) ?_
      omega
    refine ⟨_, rfl, ?_, s * (8 + fr : ℕ) * (2 ^ (ex - 1) : ℕ), by rw [grid]; push_cast; ring⟩
    rw [abs_mul, abs_mul, hs1, one_mul, Nat.abs_cast, abs_of_pos (by positivity)]
    rcases Nat.lt_or_ge ex 15 with h | h
    · have f : ((8 + fr : ℕ) : ℝ) ≤ 15 := by exact_mod_cast (by omega : 8 + fr ≤ 15)
      have z : (2 : ℝ) ^ ((ex : ℤ) - 10) ≤ (2 : ℝ) ^ (4 : ℤ) := zpow_le_zpow_right₀ (by norm_num) (by omega)
      have z0 : (0 : ℝ) < (2 : ℝ) ^ ((ex : ℤ) - 10) := by positivity
      have z4 : (2 : ℝ) ^ (4 : ℤ) = 16 := by norm_num
      rw [z4] at z
      nlinarith
    · obtain rfl : ex = 15 := by omega
      have f : ((8 + fr : ℕ) : ℝ) ≤ 14 := by exact_mod_cast (by omega : 8 + fr ≤ 14)
      have z4 : (2 : ℝ) ^ (((15 : ℕ) : ℤ) - 10) = 32 := by norm_num
      rw [z4]
      nlinarith

/-- A product of a row with a channel is a multiple of `2 ^ -18` of bounded size. -/
theorem dot_bound (x : Fin 1024 → EReal) (w : Fin 8192 → Fin 1024 → EReal)
    (hx : ∀ k, Code (x k)) (hw : ∀ n k, Code (w n k)) (n : Fin 8192) :
    ∃ d : ℝ, dot x w n = (d : EReal) ∧ |d| ≤ 1024 * (448 * 448) ∧ ∃ z : ℤ, d = z * (2 : ℝ) ^ (-18 : ℤ) := by
  choose a ha hA u hu using hx
  choose b hb hB v hv using hw n
  refine ⟨∑ k, a k * b k, ?_, ?_, ∑ k, u k * v k, ?_⟩
  · unfold dot
    simp only [ha, hb, ← EReal.coe_mul]
    have coe_sum : ∀ S : Finset (Fin 1024), ∑ k ∈ S, ((a k * b k : ℝ) : EReal) = ((∑ k ∈ S, a k * b k : ℝ) : EReal) := by
      classical
      intro S
      induction S using Finset.induction_on with
      | empty => simp
      | insert i S hi ih => rw [Finset.sum_insert hi, Finset.sum_insert hi, ih, EReal.coe_add]
    exact coe_sum _
  · refine (Finset.abs_sum_le_sum_abs _ _).trans ?_
    have h : ∀ k ∈ (Finset.univ : Finset (Fin 1024)), |a k * b k| ≤ 448 * 448 := by
      intro k _
      rw [abs_mul]
      exact mul_le_mul (hA k) (hB k) (abs_nonneg _) (by norm_num)
    refine (Finset.sum_le_card_nsmul _ _ _ h).trans ?_
    simp
  · rw [Int.cast_sum, Finset.sum_mul]
    refine Finset.sum_congr rfl fun k _ => ?_
    rw [hu, hv, show (-18 : ℤ) = -9 + -9 by norm_num, zpow_add₀ (by norm_num)]
    push_cast
    ring

/-- The bound of the precondition, `2 ^ 36`. -/
theorem f32_big : Ideal.ofBits FTy.f32 0x51800000#32 = ((2 ^ 36 : ℝ) : EReal) := by
  have h := thr_normal 163 (by omega) (by omega)
  rw [show (((163 : ℕ) : ℤ) - 127) = ((36 : ℕ) : ℤ) by norm_num, zpow_natCast] at h
  exact h

/-- The lower bound of the precondition, `2 ^ -37`. -/
theorem f32_small : Ideal.ofBits FTy.f32 0x2D000000#32 = (((2 : ℝ) ^ (-37 : ℤ) : ℝ) : EReal) := by
  have h := thr_normal 90 (by omega) (by omega)
  rw [show (((90 : ℕ) : ℤ) - 127) = -37 by norm_num] at h
  exact h

/-- The f32 nearest 1/57344 is between `2 ^ -16` and `2 ^ -15`. -/
theorem f32_inv : ∃ c : ℝ, Ideal.ofBits FTy.f32 932333861#32 = (c : EReal) ∧ 1 / 2 ^ 16 ≤ c ∧ c ≤ 1 / 2 ^ 15 := by
  have h1 : (932333861#32).extractLsb' 31 1 = 0#1 := by decide +kernel
  have h2 : ((932333861#32).extractLsb' 23 8).toNat = 111 := by decide +kernel
  have h3 : ((932333861#32).extractLsb' 0 23).toNat = 1198373 := by decide +kernel
  simp only [Ideal.ofBits, Ideal.ieee]
  rw [h1, h2, h3, if_neg (by norm_num), if_neg (by norm_num)]
  refine ⟨_, rfl, ?_, ?_⟩
  · norm_num
  · norm_num

/-- A product of scales that the bound holds of is a real within it. -/
theorem scale_bound (xs ws : EReal) (B : ℝ) (h0 : 0 ≤ xs) (h : xs * max ws (-ws) ≤ (B : EReal)) :
    ∃ p : ℝ, xs * ws = (p : EReal) ∧ |p| ≤ B := by
  have u : xs * ws ≤ (B : EReal) := (mul_le_mul_of_nonneg_left (le_max_left _ _) h0).trans h
  have l : -(xs * ws) ≤ (B : EReal) := by
    rw [← mul_neg]
    exact (mul_le_mul_of_nonneg_left (le_max_right _ _) h0).trans h
  have ht : xs * ws ≠ ⊤ := fun e => by rw [e] at u; exact absurd u (not_le.mpr (EReal.coe_lt_top B))
  have hb : xs * ws ≠ ⊥ := fun e => by rw [e, EReal.neg_bot] at l; exact absurd l (not_le.mpr (EReal.coe_lt_top B))
  refine ⟨(xs * ws).toReal, (EReal.coe_toReal ht hb).symm, ?_⟩
  rw [← EReal.coe_toReal ht hb] at u l
  rw [← EReal.coe_neg, EReal.coe_le_coe_iff] at l
  rw [EReal.coe_le_coe_iff] at u
  exact abs_le.mpr ⟨by linarith, u⟩

/-- A product of scales whose size is zero or at least `B` is itself so. -/
theorem scale_low (xs ws : EReal) (B p : ℝ) (hP : xs * ws = (p : EReal))
    (h : xs * max ws (-ws) = 0 ∨ (B : EReal) ≤ xs * max ws (-ws)) : p = 0 ∨ B ≤ |p| := by
  rcases max_choice ws (-ws) with e | e
  · rw [e, hP] at h
    rcases h with h | h
    · exact Or.inl (EReal.coe_eq_zero.mp h)
    · exact Or.inr ((EReal.coe_le_coe_iff.mp h).trans (le_abs_self p))
  · rw [e, mul_neg, hP, ← EReal.coe_neg] at h
    rcases h with h | h
    · exact Or.inl (neg_eq_zero.mp (EReal.coe_eq_zero.mp h))
    · exact Or.inr ((EReal.coe_le_coe_iff.mp h).trans (neg_le_abs p))

/-- A multiple of `2 ^ -18`, times a number that is zero or of size at least `2 ^ -37`, has as the square of its positive part zero or
    at least `2 ^ -110`. -/
theorem square_low (d p : ℝ) (z : ℤ) (hz : d = z * (2 : ℝ) ^ (-18 : ℤ)) (hp : p = 0 ∨ (2 : ℝ) ^ (-37 : ℤ) ≤ |p|) :
    max (d * p) 0 * max (d * p) 0 = 0 ∨ (2 : ℝ) ^ (-110 : ℤ) ≤ max (d * p) 0 * max (d * p) 0 := by
  rcases le_or_gt (d * p) 0 with h | h
  · exact Or.inl (by rw [max_eq_right h, mul_zero])
  · right
    rw [max_eq_left h.le]
    have hz0 : z ≠ 0 := by
      rintro rfl
      rw [hz] at h
      simp at h
    have hp0 : p ≠ 0 := by
      rintro rfl
      simp at h
    have hd : (2 : ℝ) ^ (-18 : ℤ) ≤ |d| := by
      rw [hz, abs_mul, abs_of_pos (show (0 : ℝ) < (2 : ℝ) ^ (-18 : ℤ) by positivity)]
      refine le_mul_of_one_le_left (by positivity) ?_
      rw [← Int.cast_abs]
      exact_mod_cast Int.one_le_abs hz0
    have hq : (2 : ℝ) ^ (-55 : ℤ) ≤ d * p := by
      rw [← abs_of_pos h, abs_mul, show (-55 : ℤ) = -18 + -37 by norm_num, zpow_add₀ (by norm_num)]
      exact mul_le_mul hd (hp.resolve_left hp0) (by positivity) (abs_nonneg _)
    rw [show (-110 : ℤ) = -55 + -55 by norm_num, zpow_add₀ (by norm_num)]
    exact mul_le_mul hq hq (by positivity) h.le

/-- A row's largest squared activation is a real, over the largest finite e5m2 it is below `2 ^ 126`, and it is zero or, over the
    largest finite e5m2, at least `2 ^ -126`. -/
theorem top_bound (x : Fin 1024 → EReal) (xs : EReal) (w : Fin 8192 → Fin 1024 → EReal) (ws : Fin 8192 → EReal)
    (hx : ∀ k, Code (x k)) (hw : ∀ n k, Code (w n k))
    (h0 : 0 ≤ xs) (hp : ∀ n, xs * max (ws n) (-(ws n)) ≤ ((2 ^ 36 : ℝ) : EReal))
    (hq : ∀ n, xs * max (ws n) (-(ws n)) = 0 ∨ (((2 : ℝ) ^ (-37 : ℤ) : ℝ) : EReal) ≤ xs * max (ws n) (-(ws n))) :
    ∃ r : ℝ, top x xs w ws * Ideal.ofBits FTy.f32 932333861#32 = (r : EReal) ∧ r < (2 : ℝ) ^ (126 : ℤ)
      ∧ (top x xs w ws = 0 ∨ (2 : ℝ) ^ (-126 : ℤ) ≤ r) := by
  obtain ⟨c, hc, c2, c1⟩ := f32_inv
  have c0 : 0 ≤ c := le_trans (by norm_num) c2
  have each : ∀ n, ∃ y : ℝ, sqAct x xs w ws n = (y : EReal) ∧ 0 ≤ y ∧ y ≤ (1024 * (448 * 448) * 2 ^ 36) ^ 2
      ∧ (y = 0 ∨ (2 : ℝ) ^ (-110 : ℤ) ≤ y) := by
    intro n
    obtain ⟨d, hd, hD, z, hz⟩ := dot_bound x w hx hw n
    obtain ⟨p, hP, hB⟩ := scale_bound xs (ws n) _ h0 (hp n)
    refine ⟨max (d * p) 0 * max (d * p) 0, ?_, by positivity, ?_, square_low d p z hz (scale_low xs (ws n) _ p hP (hq n))⟩
    · unfold sqAct
      rw [hd, hP, ← EReal.coe_mul, ← EReal.coe_zero, ← coe_max, ← EReal.coe_mul]
    · have e : |d * p| ≤ 1024 * (448 * 448) * 2 ^ 36 := by
        rw [abs_mul]
        exact mul_le_mul hD hB (abs_nonneg _) (by norm_num)
      have m0 : 0 ≤ max (d * p) 0 := le_max_right _ _
      have m1 : max (d * p) 0 ≤ 1024 * (448 * 448) * 2 ^ 36 := max_le ((le_abs_self _).trans e) (by norm_num)
      rw [sq]
      exact mul_le_mul m1 m1 m0 (by norm_num)
  choose y hy y0 y1 y2 using each
  have hi : top x xs w ws ≤ ((((1024 * (448 * 448) * 2 ^ 36) ^ 2 : ℝ)) : EReal) := by
    unfold top
    rw [Finset.fold_max_le]
    refine ⟨bot_le, fun n _ => ?_⟩
    rw [hy, ← EReal.coe_neg, ← coe_max, EReal.coe_le_coe_iff]
    exact max_le (y1 n) (by have := y0 n; nlinarith [y1 n])
  have lo : 0 ≤ top x xs w ws := by
    unfold top
    rw [Finset.le_fold_max]
    refine Or.inr ⟨0, Finset.mem_univ _, le_max_of_le_left ?_⟩
    rw [hy]
    exact_mod_cast y0 0
  have ht : top x xs w ws ≠ ⊤ := fun e => by rw [e] at hi; exact absurd hi (not_le.mpr (EReal.coe_lt_top _))
  have hb : top x xs w ws ≠ ⊥ := fun e => by rw [e] at lo; exact absurd lo (not_le.mpr EReal.bot_lt_zero)
  have eq := EReal.coe_toReal ht hb
  rw [← eq] at hi lo
  rw [EReal.coe_le_coe_iff] at hi
  have lo' : 0 ≤ (top x xs w ws).toReal := by exact_mod_cast lo
  have low : top x xs w ws = 0 ∨ (2 : ℝ) ^ (-110 : ℤ) ≤ (top x xs w ws).toReal := by
    have self : top x xs w ws ≤ top x xs w ws := le_rfl
    nth_rewrite 2 [top] at self
    rcases (Finset.le_fold_max _).mp self with h | ⟨n, _, h⟩
    · exact absurd (le_bot_iff.mp h) hb
    · rw [hy, ← EReal.coe_neg, ← coe_max, max_eq_left (by have := y0 n; linarith)] at h
      have g : (y n : EReal) ≤ top x xs w ws := by
        unfold top
        rw [Finset.le_fold_max]
        refine Or.inr ⟨n, Finset.mem_univ _, le_max_of_le_left ?_⟩
        rw [hy]
      rcases y2 n with e | e
      · left
        rw [e, EReal.coe_zero] at h
        exact le_antisymm h (by rw [← eq]; exact lo)
      · right
        rw [← eq, EReal.coe_le_coe_iff] at g
        exact e.trans g
  refine ⟨(top x xs w ws).toReal * c, by rw [hc, EReal.coe_mul, eq], ?_, low.imp id fun h => ?_⟩
  swap
  · rw [show (-126 : ℤ) = -110 + -16 by norm_num, zpow_add₀ (by norm_num)]
    exact mul_le_mul h (le_trans (by norm_num) c2) (by positivity) lo'
  have step : (top x xs w ws).toReal * c ≤ (1024 * (448 * 448) * 2 ^ 36) ^ 2 * (1 / 2 ^ 15) := mul_le_mul hi c1 c0 (by positivity)
  refine lt_of_le_of_lt step ?_
  norm_num

end Cert.Sq

end
-- ==== Proof.RowEq.lean ====
/- The row equation: where the row scale is not negative, the kernel's row maximum is the reference's, and so are the code and
   the scale. -/
module

public import proofs.«01_k».proof.Proof.Pow2
public import proofs.«01_k».proof.Proof.Bounds

@[expose] public section

noncomputable section

namespace Cert.Sq

open Idealize.ShloMosaic

/-- A scale that is not negative moves out of the positive part. -/
theorem pos_scale (t xs : EReal) (h0 : 0 ≤ xs) : max (t * xs) 0 = max t 0 * xs := by
  rcases le_total t 0 with h | h
  · have := mul_le_mul_of_nonneg_right h h0
    rw [zero_mul] at this
    rw [max_eq_right this, max_eq_right h, zero_mul]
  · rw [max_eq_left (mul_nonneg h h0), max_eq_left h]

/-- The reference's squared activation as a function of the kernel's scaled product. -/
theorem sqAct_eq (x : Fin 1024 → EReal) (xs : EReal) (w : Fin 8192 → Fin 1024 → EReal) (ws : Fin 8192 → EReal) (n : Fin 8192) :
    sqAct x xs w ws n = max (scaled x w ws n * xs) 0 * max (scaled x w ws n * xs) 0 := by
  have e : dot x w n * (xs * ws n) = scaled x w ws n * xs := by
    unfold scaled
    rw [mul_comm xs, ← mul_assoc]
  unfold sqAct
  rw [e]

theorem square_mono (s t xs : EReal) (h0 : 0 ≤ xs) (h : s ≤ t) :
    max (s * xs) 0 * max (s * xs) 0 ≤ max (t * xs) 0 * max (t * xs) 0 := by
  have m : max (s * xs) 0 ≤ max (t * xs) 0 := max_le_max (mul_le_mul_of_nonneg_right h h0) le_rfl
  exact mul_le_mul m m (le_max_right _ _) (le_max_right _ _)

/-- The row's largest squared activation is the square of the positive part of the kernel's largest scaled product. -/
theorem top_eq (x : Fin 1024 → EReal) (xs : EReal) (w : Fin 8192 → Fin 1024 → EReal) (ws : Fin 8192 → EReal) (h0 : 0 ≤ xs) :
    top x xs w ws = max (Finset.fold max 0 (scaled x w ws) Finset.univ * xs) 0 * max (Finset.fold max 0 (scaled x w ws) Finset.univ * xs) 0 := by
  have nn : ∀ n, 0 ≤ sqAct x xs w ws n := fun n => mul_nonneg (le_max_right _ _) (le_max_right _ _)
  have ab : ∀ n, max (sqAct x xs w ws n) (-(sqAct x xs w ws n)) = sqAct x xs w ws n := fun n =>
    max_eq_left ((EReal.neg_le.mpr (by rw [neg_zero]; exact nn n)).trans (nn n))
  unfold top
  simp only [ab]
  apply le_antisymm
  · rw [Finset.fold_max_le]
    refine ⟨bot_le, fun n hn => ?_⟩
    rw [sqAct_eq]
    exact square_mono _ _ xs h0 ((Finset.le_fold_max (scaled x w ws n)).mpr (Or.inr ⟨n, hn, le_rfl⟩))
  · rcases (Finset.le_fold_max (s := Finset.univ) (b := 0) (f := scaled x w ws) (Finset.fold max 0 (scaled x w ws) Finset.univ)).mp le_rfl with h | ⟨n, hn, h⟩
    · have z : max (Finset.fold max 0 (scaled x w ws) Finset.univ * xs) 0 = 0 := by
        rw [pos_scale _ _ h0, max_eq_right h, zero_mul]
      rw [z, mul_zero, Finset.le_fold_max]
      exact Or.inr ⟨0, Finset.mem_univ _, nn 0⟩
    · rw [Finset.le_fold_max]
      refine Or.inr ⟨n, hn, ?_⟩
      rw [sqAct_eq]
      exact square_mono _ _ xs h0 h

theorem kArg_eq (x : Fin 1024 → EReal) (xs : EReal) (w : Fin 8192 → Fin 1024 → EReal) (ws : Fin 8192 → EReal) (h0 : 0 ≤ xs) :
    kArg x xs w ws = top x xs w ws * Ideal.ofBits FTy.f32 932333861#32 := by
  rw [top_eq x xs w ws h0]
  rfl

/-- What is assumed of a row: activations and weights that are codes, a row scale that is not negative, and products of scales that are zero or within the two
    bounds. -/
structure Ok (x : Fin 1024 → EReal) (xs : EReal) (w : Fin 8192 → Fin 1024 → EReal) (ws : Fin 8192 → EReal) : Prop where
  hx : ∀ k, Code (x k)
  hw : ∀ n k, Code (w n k)
  h0 : 0 ≤ xs
  hp : ∀ n, xs * max (ws n) (-(ws n)) ≤ ((2 ^ 36 : ℝ) : EReal)
  hq : ∀ n, xs * max (ws n) (-(ws n)) = 0 ∨ (((2 : ℝ) ^ (-37 : ℤ) : ℝ) : EReal) ≤ xs * max (ws n) (-(ws n))

/-- The two row scales agree. -/
theorem scale_eq {x : Fin 1024 → EReal} {xs : EReal} {w : Fin 8192 → Fin 1024 → EReal} {ws : Fin 8192 → EReal} (h : Ok x xs w ws) :
    kScale x xs w ws = rScale x xs w ws := by
  obtain ⟨r, hr, r1, r2⟩ := top_bound x xs w ws h.hx h.hw h.h0 h.hp h.hq
  unfold kScale rScale
  rw [kArg_eq x xs w ws h.h0, hr]
  exact (pow2_eq _ r hr r1 r2).1

/-- The two codes agree. -/
theorem code_eq {x : Fin 1024 → EReal} {xs : EReal} {w : Fin 8192 → Fin 1024 → EReal} {ws : Fin 8192 → EReal} (h : Ok x xs w ws) (n : Fin 8192) :
    kCode x xs w ws n = rCode x xs w ws n := by
  obtain ⟨r, hr, r1, r2⟩ := top_bound x xs w ws h.hx h.hw h.h0 h.hp h.hq
  unfold kCode rCode
  rw [kArg_eq x xs w ws h.h0, hr, (pow2_eq _ r hr r1 r2).2, sqAct_eq, pos_scale _ _ h.h0]
  refine congrArg clip ?_
  generalize max (scaled x w ws n) 0 = t
  generalize Ideal.exp2 (0 - refExpo (top x xs w ws)) = p
  ac_rfl

end Cert.Sq

end
-- ==== Proof.KernelTile.lean ====
/- What one grid point leaves in the scratch: the tile products `g`, and their largest value along each row. -/
module

public import proofs.«01_k».proof.Proof.Gen.KernelIdeal.Value
public import proofs.«01_k».proof.Proof.Scalars
public import Idealize.ShloMosaic.Lib.Pointwise
public import Idealize.ShloMosaic.Lib.Pipeline.ValueKit
public import Idealize.ShloMosaic.Lib.Pipeline.ReadBack

@[expose] public section

set_option maxRecDepth 16384

noncomputable section

namespace Cert.KernelIdeal.Gen

open Idealize.ShloMosaic Idealize.SL.Sem

/-- The scaled product of token `r` of the block with output channel `n`. -/
def gAt (x0 : Vec Ideal S256x1024 .fp8e4m3) (x2 : Vec Ideal S8192x1024 .fp8e4m3) (x3 : Vec Ideal S1x8192 .f32) (r : Fin 256) (n : Fin 8192) : EReal :=
  (∑ k : Fin 1024, x0 (ix2 r k) * x2 (ix2 n k)) * x3 (ix2 0 n)

theorem gAt_val {x0 : Vec Ideal S256x1024 .fp8e4m3} {x2 : Vec Ideal S8192x1024 .fp8e4m3} {x3 : Vec Ideal S1x8192 .f32}
    {r r' : Fin 256} {n n' : Fin 8192} (hr : r = r') (h : n = n') : gAt x0 x2 x3 r n = gAt x0 x2 x3 r' n' := by
  rw [hr, h]

theorem gAt_le {x0 : Vec Ideal S256x1024 .fp8e4m3} {x2 : Vec Ideal S8192x1024 .fp8e4m3} {x3 : Vec Ideal S1x8192 .f32}
    {r : Fin 256} {n n' : Fin 8192} {u : EReal} (h : n.val = n'.val) (a : gAt x0 x2 x3 r n ≤ u) : gAt x0 x2 x3 r n' ≤ u :=
  Fin.ext h ▸ a

/-- Tile 0 of the products. -/
theorem tile0 (x0 : Vec Ideal S256x1024 .fp8e4m3) (x2 : Vec Ideal S8192x1024 .fp8e4m3) (x3 : Vec Ideal S1x8192 .f32) (j : S256x1024.Idx) :
    k0_pay4 x0 (View.ld x2 (Rect.unit ![0, 0] ![1024, 1024] inb_S8192x1024_S1024x1024_0_0)) (View.ld x3 (Rect.unit ![0, 0] ![1, 1024] inb_S1x8192_S1x1024_0_0)) j
      = gAt x0 x2 x3 (j 0) ⟨0 + j 1, by have := (j 1).isLt; simp at this; omega⟩ := by
  pointwise [k0_pay4, k0_pay3]
  rfl

/-- Tile 1 of the products. -/
theorem tile1 (x0 : Vec Ideal S256x1024 .fp8e4m3) (x2 : Vec Ideal S8192x1024 .fp8e4m3) (x3 : Vec Ideal S1x8192 .f32) (j : S256x1024.Idx) :
    k0_pay7 x0 (View.ld x2 (Rect.unit ![1024, 0] ![1024, 1024] inb_S8192x1024_S1024x1024_1024_0)) (View.ld x3 (Rect.unit ![0, 1024] ![1, 1024] inb_S1x8192_S1x1024_0_1024)) j
      = gAt x0 x2 x3 (j 0) ⟨1024 + j 1, by have := (j 1).isLt; simp at this; omega⟩ := by
  pointwise [k0_pay7, k0_pay3]
  rfl

/-- Tile 2 of the products. -/
theorem tile2 (x0 : Vec Ideal S256x1024 .fp8e4m3) (x2 : Vec Ideal S8192x1024 .fp8e4m3) (x3 : Vec Ideal S1x8192 .f32) (j : S256x1024.Idx) :
    k0_pay10 (k0_pay3 x0) (View.ld x2 (Rect.unit ![2048, 0] ![1024, 1024] inb_S8192x1024_S1024x1024_2048_0)) (View.ld x3 (Rect.unit ![0, 2048] ![1, 1024] inb_S1x8192_S1x1024_0_2048)) j
      = gAt x0 x2 x3 (j 0) ⟨2048 + j 1, by have := (j 1).isLt; simp at this; omega⟩ := by
  pointwise [k0_pay10, k0_pay3]
  rfl

/-- Tile 3 of the products. -/
theorem tile3 (x0 : Vec Ideal S256x1024 .fp8e4m3) (x2 : Vec Ideal S8192x1024 .fp8e4m3) (x3 : Vec Ideal S1x8192 .f32) (j : S256x1024.Idx) :
    k0_pay15 (k0_pay13 (k0_pay3 x0) (View.ld x2 (Rect.unit ![3072, 0] ![1024, 1024] inb_S8192x1024_S1024x1024_3072_0))) (k0_pay14 (View.ld x3 (Rect.unit ![0, 3072] ![1, 1024] inb_S1x8192_S1x1024_0_3072))) j
      = gAt x0 x2 x3 (j 0) ⟨3072 + j 1, by have := (j 1).isLt; simp at this; omega⟩ := by
  pointwise [k0_pay15, k0_pay3, k0_pay13, k0_pay14]
  rfl

/-- Tile 4 of the products. -/
theorem tile4 (x0 : Vec Ideal S256x1024 .fp8e4m3) (x2 : Vec Ideal S8192x1024 .fp8e4m3) (x3 : Vec Ideal S1x8192 .f32) (j : S256x1024.Idx) :
    k0_pay17 (k0_pay3 x0) (View.ld x2 (Rect.unit ![4096, 0] ![1024, 1024] inb_S8192x1024_S1024x1024_4096_0)) (View.ld x3 (Rect.unit ![0, 4096] ![1, 1024] inb_S1x8192_S1x1024_0_4096)) j
      = gAt x0 x2 x3 (j 0) ⟨4096 + j 1, by have := (j 1).isLt; simp at this; omega⟩ := by
  pointwise [k0_pay17, k0_pay3]
  rfl

/-- Tile 5 of the products. -/
theorem tile5 (x0 : Vec Ideal S256x1024 .fp8e4m3) (x2 : Vec Ideal S8192x1024 .fp8e4m3) (x3 : Vec Ideal S1x8192 .f32) (j : S256x1024.Idx) :
    k0_pay20 (k0_pay3 x0) (View.ld x2 (Rect.unit ![5120, 0] ![1024, 1024] inb_S8192x1024_S1024x1024_5120_0)) (View.ld x3 (Rect.unit ![0, 5120] ![1, 1024] inb_S1x8192_S1x1024_0_5120)) j
      = gAt x0 x2 x3 (j 0) ⟨5120 + j 1, by have := (j 1).isLt; simp at this; omega⟩ := by
  pointwise [k0_pay20, k0_pay3]
  rfl

/-- Tile 6 of the products. -/
theorem tile6 (x0 : Vec Ideal S256x1024 .fp8e4m3) (x2 : Vec Ideal S8192x1024 .fp8e4m3) (x3 : Vec Ideal S1x8192 .f32) (j : S256x1024.Idx) :
    k0_pay22 (k0_pay3 x0) (View.ld x2 (Rect.unit ![6144, 0] ![1024, 1024] inb_S8192x1024_S1024x1024_6144_0)) (View.ld x3 (Rect.unit ![0, 6144] ![1, 1024] inb_S1x8192_S1x1024_0_6144)) j
      = gAt x0 x2 x3 (j 0) ⟨6144 + j 1, by have := (j 1).isLt; simp at this; omega⟩ := by
  pointwise [k0_pay22, k0_pay3]
  rfl

/-- Tile 7 of the products. -/
theorem tile7 (x0 : Vec Ideal S256x1024 .fp8e4m3) (x2 : Vec Ideal S8192x1024 .fp8e4m3) (x3 : Vec Ideal S1x8192 .f32) (j : S256x1024.Idx) :
    k0_pay26 (k0_pay3 x0) (View.ld x2 (Rect.unit ![7168, 0] ![1024, 1024] inb_S8192x1024_S1024x1024_7168_0)) (View.ld x3 (Rect.unit ![0, 7168] ![1, 1024] inb_S1x8192_S1x1024_0_7168)) j
      = gAt x0 x2 x3 (j 0) ⟨7168 + j 1, by have := (j 1).isLt; simp at this; omega⟩ := by
  pointwise [k0_pay26, k0_pay3]
  rfl

/-- The scratch after the first loop: its eight stored tiles, the last first. -/
abbrev scratch (x0 : Vec Ideal S256x1024 .fp8e4m3) (x2 : Vec Ideal S8192x1024 .fp8e4m3) (x3 : Vec Ideal S1x8192 .f32) : List (View.Piece (Elt Ideal) S256x8192 .f32) :=
      [⟨(Rect.unit ![0, 7168] ![256, 1024] inb_S256x8192_S256x1024_0_7168),
          k0_pay27 (k0_pay3 x0) (View.ld x2 (Rect.unit ![7168, 0] ![1024, 1024] inb_S8192x1024_S1024x1024_7168_0)) (View.ld x3 (Rect.unit ![0, 7168] ![1, 1024] inb_S1x8192_S1x1024_0_7168))⟩,
        ⟨(Rect.unit ![0, 6144] ![256, 1024] inb_S256x8192_S256x1024_0_6144),
          k0_pay23 (k0_pay3 x0) (View.ld x2 (Rect.unit ![6144, 0] ![1024, 1024] inb_S8192x1024_S1024x1024_6144_0)) (View.ld x3 (Rect.unit ![0, 6144] ![1, 1024] inb_S1x8192_S1x1024_0_6144))⟩,
        ⟨(Rect.unit ![0, 5120] ![256, 1024] inb_S256x8192_S256x1024_0_5120),
          k0_pay21 (k0_pay3 x0) (View.ld x2 (Rect.unit ![5120, 0] ![1024, 1024] inb_S8192x1024_S1024x1024_5120_0)) (View.ld x3 (Rect.unit ![0, 5120] ![1, 1024] inb_S1x8192_S1x1024_0_5120))⟩,
        ⟨(Rect.unit ![0, 4096] ![256, 1024] inb_S256x8192_S256x1024_0_4096),
          k0_pay18 (k0_pay3 x0) (View.ld x2 (Rect.unit ![4096, 0] ![1024, 1024] inb_S8192x1024_S1024x1024_4096_0)) (View.ld x3 (Rect.unit ![0, 4096] ![1, 1024] inb_S1x8192_S1x1024_0_4096))⟩,
        ⟨(Rect.unit ![0, 3072] ![256, 1024] inb_S256x8192_S256x1024_0_3072),
          k0_pay16 (k0_pay13 (k0_pay3 x0) (View.ld x2 (Rect.unit ![3072, 0] ![1024, 1024] inb_S8192x1024_S1024x1024_3072_0))) (k0_pay14 (View.ld x3 (Rect.unit ![0, 3072] ![1, 1024] inb_S1x8192_S1x1024_0_3072)))⟩,
        ⟨(Rect.unit ![0, 2048] ![256, 1024] inb_S256x8192_S256x1024_0_2048),
          k0_pay11 (k0_pay3 x0) (View.ld x2 (Rect.unit ![2048, 0] ![1024, 1024] inb_S8192x1024_S1024x1024_2048_0)) (View.ld x3 (Rect.unit ![0, 2048] ![1, 1024] inb_S1x8192_S1x1024_0_2048))⟩,
        ⟨(Rect.unit ![0, 1024] ![256, 1024] inb_S256x8192_S256x1024_0_1024),
          k0_pay8 x0 (View.ld x2 (Rect.unit ![1024, 0] ![1024, 1024] inb_S8192x1024_S1024x1024_1024_0)) (View.ld x3 (Rect.unit ![0, 1024] ![1, 1024] inb_S1x8192_S1x1024_0_1024))⟩,
        ⟨(Rect.unit ![0, 0] ![256, 1024] inb_S256x8192_S256x1024_0_0),
          k0_pay5 x0 (View.ld x2 (Rect.unit ![0, 0] ![1024, 1024] inb_S8192x1024_S1024x1024_0_0)) (View.ld x3 (Rect.unit ![0, 0] ![1, 1024] inb_S1x8192_S1x1024_0_0))⟩]

/-- The running maximum after the first loop: 128 lanes of each row. -/
abbrev topTile (x0 : Vec Ideal S256x1024 .fp8e4m3) (x2 : Vec Ideal S8192x1024 .fp8e4m3) (x3 : Vec Ideal S1x8192 .f32) : FVec Ideal S256x128 .f32 :=
    (k0_pay28 (k0_pay3 x0) (k0_pay22 (k0_pay3 x0) (View.ld x2 (Rect.unit ![6144, 0] ![1024, 1024] inb_S8192x1024_S1024x1024_6144_0)) (View.ld x3 (Rect.unit ![0, 6144] ![1, 1024] inb_S1x8192_S1x1024_0_6144)))
      (k0_pay24 (k0_pay3 x0)
        (k0_pay19 (k0_pay3 x0)
          (k0_pay12 (k0_pay3 x0) (k0_pay6 x0 (View.ld x2 (Rect.unit ![0, 0] ![1024, 1024] inb_S8192x1024_S1024x1024_0_0)) (View.ld x3 (Rect.unit ![0, 0] ![1, 1024] inb_S1x8192_S1x1024_0_0)))
            (k0_pay7 x0 (View.ld x2 (Rect.unit ![1024, 0] ![1024, 1024] inb_S8192x1024_S1024x1024_1024_0)) (View.ld x3 (Rect.unit ![0, 1024] ![1, 1024] inb_S1x8192_S1x1024_0_1024)))
            (k0_pay9 x0 (View.ld x2 (Rect.unit ![1024, 0] ![1024, 1024] inb_S8192x1024_S1024x1024_1024_0)) (View.ld x3 (Rect.unit ![0, 1024] ![1, 1024] inb_S1x8192_S1x1024_0_1024)))
            (View.ld x2 (Rect.unit ![2048, 0] ![1024, 1024] inb_S8192x1024_S1024x1024_2048_0)) (View.ld x3 (Rect.unit ![0, 2048] ![1, 1024] inb_S1x8192_S1x1024_0_2048)))
          (k0_pay13 (k0_pay3 x0) (View.ld x2 (Rect.unit ![3072, 0] ![1024, 1024] inb_S8192x1024_S1024x1024_3072_0))) (k0_pay14 (View.ld x3 (Rect.unit ![0, 3072] ![1, 1024] inb_S1x8192_S1x1024_0_3072)))
          (View.ld x2 (Rect.unit ![4096, 0] ![1024, 1024] inb_S8192x1024_S1024x1024_4096_0)) (View.ld x3 (Rect.unit ![0, 4096] ![1, 1024] inb_S1x8192_S1x1024_0_4096)))
        (View.ld x2 (Rect.unit ![5120, 0] ![1024, 1024] inb_S8192x1024_S1024x1024_5120_0)) (View.ld x3 (Rect.unit ![0, 5120] ![1, 1024] inb_S1x8192_S1x1024_0_5120))
        (View.ld x2 (Rect.unit ![6144, 0] ![1024, 1024] inb_S8192x1024_S1024x1024_6144_0)) (View.ld x3 (Rect.unit ![0, 6144] ![1, 1024] inb_S1x8192_S1x1024_0_6144)))
      (k0_pay25 (k0_pay3 x0) (View.ld x2 (Rect.unit ![6144, 0] ![1024, 1024] inb_S8192x1024_S1024x1024_6144_0)) (View.ld x3 (Rect.unit ![0, 6144] ![1, 1024] inb_S1x8192_S1x1024_0_6144)))
      (View.ld x2 (Rect.unit ![7168, 0] ![1024, 1024] inb_S8192x1024_S1024x1024_7168_0)) (View.ld x3 (Rect.unit ![0, 7168] ![1, 1024] inb_S1x8192_S1x1024_0_7168)))

/-- A bound of one lane of the running maximum bounds zero and every product of that lane. -/
theorem topTile_le (x0 : Vec Ideal S256x1024 .fp8e4m3) (x2 : Vec Ideal S8192x1024 .fp8e4m3) (x3 : Vec Ideal S1x8192 .f32) (j : S256x128.Idx) (u : EReal) :
    topTile x0 x2 x3 j ≤ u ↔ 0 ≤ u ∧ ∀ q : Fin 64,
      gAt x0 x2 x3 (j 0) ⟨128 * q + j 1, by have := (j 1).isLt; simp at this; omega⟩ ≤ u := by
  unfold topTile
  pointwise [k0_pay28, k0_pay25, k0_pay24, k0_pay19, k0_pay12, k0_pay9, k0_pay6]
  simp only [tile0, tile1, tile2, tile3, tile4, tile5, tile6, tile7, max_le_iff]
  constructor
  · intro h
    obtain ⟨⟨⟨⟨⟨⟨⟨⟨⟨⟨⟨⟨⟨⟨⟨⟨⟨⟨⟨⟨⟨⟨⟨⟨⟨⟨⟨⟨⟨⟨⟨⟨⟨⟨⟨⟨⟨⟨⟨⟨⟨⟨⟨⟨⟨⟨⟨⟨⟨⟨⟨⟨⟨⟨⟨⟨⟨⟨⟨⟨⟨⟨⟨⟨h0, a0⟩, a1⟩, a2⟩, a3⟩, a4⟩, a5⟩, a6⟩, a7⟩, a8⟩, a9⟩, a10⟩, a11⟩, a12⟩, a13⟩, a14⟩, a15⟩, a16⟩, a17⟩, a18⟩, a19⟩, a20⟩, a21⟩, a22⟩, a23⟩, a24⟩, a25⟩, a26⟩, a27⟩, a28⟩, a29⟩, a30⟩, a31⟩, a32⟩, a33⟩, a34⟩, a35⟩, a36⟩, a37⟩, a38⟩, a39⟩, a40⟩, a41⟩, a42⟩, a43⟩, a44⟩, a45⟩, a46⟩, a47⟩, a48⟩, a49⟩, a50⟩, a51⟩, a52⟩, a53⟩, a54⟩, a55⟩, a56⟩, a57⟩, a58⟩, a59⟩, a60⟩, a61⟩, a62⟩, a63⟩ := h
    refine ⟨h0, fun q => ?_⟩
    fin_cases q
    exacts [gAt_le (by show 0 + (j 1).val = 128 * 0 + (j 1).val; omega) a0,
      gAt_le (by show 0 + (128 + (j 1).val) = 128 * 1 + (j 1).val; omega) a1,
      gAt_le (by show 0 + (256 + (j 1).val) = 128 * 2 + (j 1).val; omega) a2,
      gAt_le (by show 0 + (384 + (j 1).val) = 128 * 3 + (j 1).val; omega) a3,
      gAt_le (by show 0 + (512 + (j 1).val) = 128 * 4 + (j 1).val; omega) a4,
      gAt_le (by show 0 + (640 + (j 1).val) = 128 * 5 + (j 1).val; omega) a5,
      gAt_le (by show 0 + (768 + (j 1).val) = 128 * 6 + (j 1).val; omega) a6,
      gAt_le (by show 0 + (896 + (j 1).val) = 128 * 7 + (j 1).val; omega) a7,
      gAt_le (by show 1024 + (j 1).val = 128 * 8 + (j 1).val; omega) a8,
      gAt_le (by show 1024 + (128 + (j 1).val) = 128 * 9 + (j 1).val; omega) a9,
      gAt_le (by show 1024 + (256 + (j 1).val) = 128 * 10 + (j 1).val; omega) a10,
      gAt_le (by show 1024 + (384 + (j 1).val) = 128 * 11 + (j 1).val; omega) a11,
      gAt_le (by show 1024 + (512 + (j 1).val) = 128 * 12 + (j 1).val; omega) a12,
      gAt_le (by show 1024 + (640 + (j 1).val) = 128 * 13 + (j 1).val; omega) a13,
      gAt_le (by show 1024 + (768 + (j 1).val) = 128 * 14 + (j 1).val; omega) a14,
      gAt_le (by show 1024 + (896 + (j 1).val) = 128 * 15 + (j 1).val; omega) a15,
      gAt_le (by show 2048 + (j 1).val = 128 * 16 + (j 1).val; omega) a16,
      gAt_le (by show 2048 + (128 + (j 1).val) = 128 * 17 + (j 1).val; omega) a17,
      gAt_le (by show 2048 + (256 + (j 1).val) = 128 * 18 + (j 1).val; omega) a18,
      gAt_le (by show 2048 + (384 + (j 1).val) = 128 * 19 + (j 1).val; omega) a19,
      gAt_le (by show 2048 + (512 + (j 1).val) = 128 * 20 + (j 1).val; omega) a20,
      gAt_le (by show 2048 + (640 + (j 1).val) = 128 * 21 + (j 1).val; omega) a21,
      gAt_le (by show 2048 + (768 + (j 1).val) = 128 * 22 + (j 1).val; omega) a22,
      gAt_le (by show 2048 + (896 + (j 1).val) = 128 * 23 + (j 1).val; omega) a23,
      gAt_le (by show 3072 + (j 1).val = 128 * 24 + (j 1).val; omega) a24,
      gAt_le (by show 3072 + (128 + (j 1).val) = 128 * 25 + (j 1).val; omega) a25,
      gAt_le (by show 3072 + (256 + (j 1).val) = 128 * 26 + (j 1).val; omega) a26,
      gAt_le (by show 3072 + (384 + (j 1).val) = 128 * 27 + (j 1).val; omega) a27,
      gAt_le (by show 3072 + (512 + (j 1).val) = 128 * 28 + (j 1).val; omega) a28,
      gAt_le (by show 3072 + (640 + (j 1).val) = 128 * 29 + (j 1).val; omega) a29,
      gAt_le (by show 3072 + (768 + (j 1).val) = 128 * 30 + (j 1).val; omega) a30,
      gAt_le (by show 3072 + (896 + (j 1).val) = 128 * 31 + (j 1).val; omega) a31,
      gAt_le (by show 4096 + (j 1).val = 128 * 32 + (j 1).val; omega) a32,
      gAt_le (by show 4096 + (128 + (j 1).val) = 128 * 33 + (j 1).val; omega) a33,
      gAt_le (by show 4096 + (256 + (j 1).val) = 128 * 34 + (j 1).val; omega) a34,
      gAt_le (by show 4096 + (384 + (j 1).val) = 128 * 35 + (j 1).val; omega) a35,
      gAt_le (by show 4096 + (512 + (j 1).val) = 128 * 36 + (j 1).val; omega) a36,
      gAt_le (by show 4096 + (640 + (j 1).val) = 128 * 37 + (j 1).val; omega) a37,
      gAt_le (by show 4096 + (768 + (j 1).val) = 128 * 38 + (j 1).val; omega) a38,
      gAt_le (by show 4096 + (896 + (j 1).val) = 128 * 39 + (j 1).val; omega) a39,
      gAt_le (by show 5120 + (j 1).val = 128 * 40 + (j 1).val; omega) a40,
      gAt_le (by show 5120 + (128 + (j 1).val) = 128 * 41 + (j 1).val; omega) a41,
      gAt_le (by show 5120 + (256 + (j 1).val) = 128 * 42 + (j 1).val; omega) a42,
      gAt_le (by show 5120 + (384 + (j 1).val) = 128 * 43 + (j 1).val; omega) a43,
      gAt_le (by show 5120 + (512 + (j 1).val) = 128 * 44 + (j 1).val; omega) a44,
      gAt_le (by show 5120 + (640 + (j 1).val) = 128 * 45 + (j 1).val; omega) a45,
      gAt_le (by show 5120 + (768 + (j 1).val) = 128 * 46 + (j 1).val; omega) a46,
      gAt_le (by show 5120 + (896 + (j 1).val) = 128 * 47 + (j 1).val; omega) a47,
      gAt_le (by show 6144 + (j 1).val = 128 * 48 + (j 1).val; omega) a48,
      gAt_le (by show 6144 + (128 + (j 1).val) = 128 * 49 + (j 1).val; omega) a49,
      gAt_le (by show 6144 + (256 + (j 1).val) = 128 * 50 + (j 1).val; omega) a50,
      gAt_le (by show 6144 + (384 + (j 1).val) = 128 * 51 + (j 1).val; omega) a51,
      gAt_le (by show 6144 + (512 + (j 1).val) = 128 * 52 + (j 1).val; omega) a52,
      gAt_le (by show 6144 + (640 + (j 1).val) = 128 * 53 + (j 1).val; omega) a53,
      gAt_le (by show 6144 + (768 + (j 1).val) = 128 * 54 + (j 1).val; omega) a54,
      gAt_le (by show 6144 + (896 + (j 1).val) = 128 * 55 + (j 1).val; omega) a55,
      gAt_le (by show 7168 + (j 1).val = 128 * 56 + (j 1).val; omega) a56,
      gAt_le (by show 7168 + (128 + (j 1).val) = 128 * 57 + (j 1).val; omega) a57,
      gAt_le (by show 7168 + (256 + (j 1).val) = 128 * 58 + (j 1).val; omega) a58,
      gAt_le (by show 7168 + (384 + (j 1).val) = 128 * 59 + (j 1).val; omega) a59,
      gAt_le (by show 7168 + (512 + (j 1).val) = 128 * 60 + (j 1).val; omega) a60,
      gAt_le (by show 7168 + (640 + (j 1).val) = 128 * 61 + (j 1).val; omega) a61,
      gAt_le (by show 7168 + (768 + (j 1).val) = 128 * 62 + (j 1).val; omega) a62,
      gAt_le (by show 7168 + (896 + (j 1).val) = 128 * 63 + (j 1).val; omega) a63]
  · rintro ⟨h0, h⟩
    exact ⟨⟨⟨⟨⟨⟨⟨⟨⟨⟨⟨⟨⟨⟨⟨⟨⟨⟨⟨⟨⟨⟨⟨⟨⟨⟨⟨⟨⟨⟨⟨⟨⟨⟨⟨⟨⟨⟨⟨⟨⟨⟨⟨⟨⟨⟨⟨⟨⟨⟨⟨⟨⟨⟨⟨⟨⟨⟨⟨⟨⟨⟨⟨⟨h0,
      gAt_le (by show 128 * 0 + (j 1).val = 0 + (j 1).val; omega) (h 0)⟩,
      gAt_le (by show 128 * 1 + (j 1).val = 0 + (128 + (j 1).val); omega) (h 1)⟩,
      gAt_le (by show 128 * 2 + (j 1).val = 0 + (256 + (j 1).val); omega) (h 2)⟩,
      gAt_le (by show 128 * 3 + (j 1).val = 0 + (384 + (j 1).val); omega) (h 3)⟩,
      gAt_le (by show 128 * 4 + (j 1).val = 0 + (512 + (j 1).val); omega) (h 4)⟩,
      gAt_le (by show 128 * 5 + (j 1).val = 0 + (640 + (j 1).val); omega) (h 5)⟩,
      gAt_le (by show 128 * 6 + (j 1).val = 0 + (768 + (j 1).val); omega) (h 6)⟩,
      gAt_le (by show 128 * 7 + (j 1).val = 0 + (896 + (j 1).val); omega) (h 7)⟩,
      gAt_le (by show 128 * 8 + (j 1).val = 1024 + (j 1).val; omega) (h 8)⟩,
      gAt_le (by show 128 * 9 + (j 1).val = 1024 + (128 + (j 1).val); omega) (h 9)⟩,
      gAt_le (by show 128 * 10 + (j 1).val = 1024 + (256 + (j 1).val); omega) (h 10)⟩,
      gAt_le (by show 128 * 11 + (j 1).val = 1024 + (384 + (j 1).val); omega) (h 11)⟩,
      gAt_le (by show 128 * 12 + (j 1).val = 1024 + (512 + (j 1).val); omega) (h 12)⟩,
      gAt_le (by show 128 * 13 + (j 1).val = 1024 + (640 + (j 1).val); omega) (h 13)⟩,
      gAt_le (by show 128 * 14 + (j 1).val = 1024 + (768 + (j 1).val); omega) (h 14)⟩,
      gAt_le (by show 128 * 15 + (j 1).val = 1024 + (896 + (j 1).val); omega) (h 15)⟩,
      gAt_le (by show 128 * 16 + (j 1).val = 2048 + (j 1).val; omega) (h 16)⟩,
      gAt_le (by show 128 * 17 + (j 1).val = 2048 + (128 + (j 1).val); omega) (h 17)⟩,
      gAt_le (by show 128 * 18 + (j 1).val = 2048 + (256 + (j 1).val); omega) (h 18)⟩,
      gAt_le (by show 128 * 19 + (j 1).val = 2048 + (384 + (j 1).val); omega) (h 19)⟩,
      gAt_le (by show 128 * 20 + (j 1).val = 2048 + (512 + (j 1).val); omega) (h 20)⟩,
      gAt_le (by show 128 * 21 + (j 1).val = 2048 + (640 + (j 1).val); omega) (h 21)⟩,
      gAt_le (by show 128 * 22 + (j 1).val = 2048 + (768 + (j 1).val); omega) (h 22)⟩,
      gAt_le (by show 128 * 23 + (j 1).val = 2048 + (896 + (j 1).val); omega) (h 23)⟩,
      gAt_le (by show 128 * 24 + (j 1).val = 3072 + (j 1).val; omega) (h 24)⟩,
      gAt_le (by show 128 * 25 + (j 1).val = 3072 + (128 + (j 1).val); omega) (h 25)⟩,
      gAt_le (by show 128 * 26 + (j 1).val = 3072 + (256 + (j 1).val); omega) (h 26)⟩,
      gAt_le (by show 128 * 27 + (j 1).val = 3072 + (384 + (j 1).val); omega) (h 27)⟩,
      gAt_le (by show 128 * 28 + (j 1).val = 3072 + (512 + (j 1).val); omega) (h 28)⟩,
      gAt_le (by show 128 * 29 + (j 1).val = 3072 + (640 + (j 1).val); omega) (h 29)⟩,
      gAt_le (by show 128 * 30 + (j 1).val = 3072 + (768 + (j 1).val); omega) (h 30)⟩,
      gAt_le (by show 128 * 31 + (j 1).val = 3072 + (896 + (j 1).val); omega) (h 31)⟩,
      gAt_le (by show 128 * 32 + (j 1).val = 4096 + (j 1).val; omega) (h 32)⟩,
      gAt_le (by show 128 * 33 + (j 1).val = 4096 + (128 + (j 1).val); omega) (h 33)⟩,
      gAt_le (by show 128 * 34 + (j 1).val = 4096 + (256 + (j 1).val); omega) (h 34)⟩,
      gAt_le (by show 128 * 35 + (j 1).val = 4096 + (384 + (j 1).val); omega) (h 35)⟩,
      gAt_le (by show 128 * 36 + (j 1).val = 4096 + (512 + (j 1).val); omega) (h 36)⟩,
      gAt_le (by show 128 * 37 + (j 1).val = 4096 + (640 + (j 1).val); omega) (h 37)⟩,
      gAt_le (by show 128 * 38 + (j 1).val = 4096 + (768 + (j 1).val); omega) (h 38)⟩,
      gAt_le (by show 128 * 39 + (j 1).val = 4096 + (896 + (j 1).val); omega) (h 39)⟩,
      gAt_le (by show 128 * 40 + (j 1).val = 5120 + (j 1).val; omega) (h 40)⟩,
      gAt_le (by show 128 * 41 + (j 1).val = 5120 + (128 + (j 1).val); omega) (h 41)⟩,
      gAt_le (by show 128 * 42 + (j 1).val = 5120 + (256 + (j 1).val); omega) (h 42)⟩,
      gAt_le (by show 128 * 43 + (j 1).val = 5120 + (384 + (j 1).val); omega) (h 43)⟩,
      gAt_le (by show 128 * 44 + (j 1).val = 5120 + (512 + (j 1).val); omega) (h 44)⟩,
      gAt_le (by show 128 * 45 + (j 1).val = 5120 + (640 + (j 1).val); omega) (h 45)⟩,
      gAt_le (by show 128 * 46 + (j 1).val = 5120 + (768 + (j 1).val); omega) (h 46)⟩,
      gAt_le (by show 128 * 47 + (j 1).val = 5120 + (896 + (j 1).val); omega) (h 47)⟩,
      gAt_le (by show 128 * 48 + (j 1).val = 6144 + (j 1).val; omega) (h 48)⟩,
      gAt_le (by show 128 * 49 + (j 1).val = 6144 + (128 + (j 1).val); omega) (h 49)⟩,
      gAt_le (by show 128 * 50 + (j 1).val = 6144 + (256 + (j 1).val); omega) (h 50)⟩,
      gAt_le (by show 128 * 51 + (j 1).val = 6144 + (384 + (j 1).val); omega) (h 51)⟩,
      gAt_le (by show 128 * 52 + (j 1).val = 6144 + (512 + (j 1).val); omega) (h 52)⟩,
      gAt_le (by show 128 * 53 + (j 1).val = 6144 + (640 + (j 1).val); omega) (h 53)⟩,
      gAt_le (by show 128 * 54 + (j 1).val = 6144 + (768 + (j 1).val); omega) (h 54)⟩,
      gAt_le (by show 128 * 55 + (j 1).val = 6144 + (896 + (j 1).val); omega) (h 55)⟩,
      gAt_le (by show 128 * 56 + (j 1).val = 7168 + (j 1).val; omega) (h 56)⟩,
      gAt_le (by show 128 * 57 + (j 1).val = 7168 + (128 + (j 1).val); omega) (h 57)⟩,
      gAt_le (by show 128 * 58 + (j 1).val = 7168 + (256 + (j 1).val); omega) (h 58)⟩,
      gAt_le (by show 128 * 59 + (j 1).val = 7168 + (384 + (j 1).val); omega) (h 59)⟩,
      gAt_le (by show 128 * 60 + (j 1).val = 7168 + (512 + (j 1).val); omega) (h 60)⟩,
      gAt_le (by show 128 * 61 + (j 1).val = 7168 + (640 + (j 1).val); omega) (h 61)⟩,
      gAt_le (by show 128 * 62 + (j 1).val = 7168 + (768 + (j 1).val); omega) (h 62)⟩,
      gAt_le (by show 128 * 63 + (j 1).val = 7168 + (896 + (j 1).val); omega) (h 63)⟩

theorem ofBits_neg_inf : Ideal.ofBits FTy.f32 4286578688#32 = ⊥ := by
  simp [Ideal.ofBits, Ideal.ieee]

/-- The maximum over the lanes of the running maximum is the largest of zero and the row's products. -/
theorem rowMax (x0 : Vec Ideal S256x1024 .fp8e4m3) (x2 : Vec Ideal S8192x1024 .fp8e4m3) (x3 : Vec Ideal S1x8192 .f32) (r : Fin 256) :
    Finset.fold max (Ideal.ofBits FTy.f32 4286578688#32) (fun l : Fin 128 => topTile x0 x2 x3 (ix2 r l)) Finset.univ
      = Finset.fold max 0 (fun n : Fin 8192 => gAt x0 x2 x3 r n) Finset.univ := by
  rw [ofBits_neg_inf]
  refine eq_of_forall_ge_iff fun u => ?_
  rw [Finset.fold_max_le, Finset.fold_max_le]
  simp only [topTile_le, Finset.mem_univ, true_imp_iff, bot_le, true_and]
  constructor
  · intro h
    refine ⟨(h 0).1, fun n => ?_⟩
    have := (h ⟨n % 128, Nat.mod_lt _ (by norm_num)⟩).2 ⟨n / 128, by have := n.isLt; omega⟩
    have e : (⟨128 * (n / 128) + n % 128, by have := n.isLt; omega⟩ : Fin 8192) = n := Fin.ext (Nat.div_add_mod _ _)
    rw [← e]
    exact this
  · intro h l
    exact ⟨h.1, fun q => h.2 _⟩

/-- Tile 0 as it is stored. -/
theorem stored0 (x0 : Vec Ideal S256x1024 .fp8e4m3) (x2 : Vec Ideal S8192x1024 .fp8e4m3) (x3 : Vec Ideal S1x8192 .f32) (j : S256x1024.Idx) :
    k0_pay5 x0 (View.ld x2 (Rect.unit ![0, 0] ![1024, 1024] inb_S8192x1024_S1024x1024_0_0)) (View.ld x3 (Rect.unit ![0, 0] ![1, 1024] inb_S1x8192_S1x1024_0_0)) j
      = gAt x0 x2 x3 (j 0) ⟨0 + j 1, by have := (j 1).isLt; simp at this; omega⟩ := by
  pointwise [k0_pay5, k0_pay4, k0_pay3]
  rfl

/-- Tile 1 as it is stored. -/
theorem stored1 (x0 : Vec Ideal S256x1024 .fp8e4m3) (x2 : Vec Ideal S8192x1024 .fp8e4m3) (x3 : Vec Ideal S1x8192 .f32) (j : S256x1024.Idx) :
    k0_pay8 x0 (View.ld x2 (Rect.unit ![1024, 0] ![1024, 1024] inb_S8192x1024_S1024x1024_1024_0)) (View.ld x3 (Rect.unit ![0, 1024] ![1, 1024] inb_S1x8192_S1x1024_0_1024)) j
      = gAt x0 x2 x3 (j 0) ⟨1024 + j 1, by have := (j 1).isLt; simp at this; omega⟩ := by
  pointwise [k0_pay8, k0_pay7, k0_pay3]
  rfl

/-- Tile 2 as it is stored. -/
theorem stored2 (x0 : Vec Ideal S256x1024 .fp8e4m3) (x2 : Vec Ideal S8192x1024 .fp8e4m3) (x3 : Vec Ideal S1x8192 .f32) (j : S256x1024.Idx) :
    k0_pay11 (k0_pay3 x0) (View.ld x2 (Rect.unit ![2048, 0] ![1024, 1024] inb_S8192x1024_S1024x1024_2048_0)) (View.ld x3 (Rect.unit ![0, 2048] ![1, 1024] inb_S1x8192_S1x1024_0_2048)) j
      = gAt x0 x2 x3 (j 0) ⟨2048 + j 1, by have := (j 1).isLt; simp at this; omega⟩ := by
  pointwise [k0_pay11, k0_pay10, k0_pay3]
  rfl

/-- Tile 3 as it is stored. -/
theorem stored3 (x0 : Vec Ideal S256x1024 .fp8e4m3) (x2 : Vec Ideal S8192x1024 .fp8e4m3) (x3 : Vec Ideal S1x8192 .f32) (j : S256x1024.Idx) :
    k0_pay16 (k0_pay13 (k0_pay3 x0) (View.ld x2 (Rect.unit ![3072, 0] ![1024, 1024] inb_S8192x1024_S1024x1024_3072_0))) (k0_pay14 (View.ld x3 (Rect.unit ![0, 3072] ![1, 1024] inb_S1x8192_S1x1024_0_3072))) j
      = gAt x0 x2 x3 (j 0) ⟨3072 + j 1, by have := (j 1).isLt; simp at this; omega⟩ := by
  pointwise [k0_pay16, k0_pay15, k0_pay3, k0_pay13, k0_pay14]
  rfl

/-- Tile 4 as it is stored. -/
theorem stored4 (x0 : Vec Ideal S256x1024 .fp8e4m3) (x2 : Vec Ideal S8192x1024 .fp8e4m3) (x3 : Vec Ideal S1x8192 .f32) (j : S256x1024.Idx) :
    k0_pay18 (k0_pay3 x0) (View.ld x2 (Rect.unit ![4096, 0] ![1024, 1024] inb_S8192x1024_S1024x1024_4096_0)) (View.ld x3 (Rect.unit ![0, 4096] ![1, 1024] inb_S1x8192_S1x1024_0_4096)) j
      = gAt x0 x2 x3 (j 0) ⟨4096 + j 1, by have := (j 1).isLt; simp at this; omega⟩ := by
  pointwise [k0_pay18, k0_pay17, k0_pay3]
  rfl

/-- Tile 5 as it is stored. -/
theorem stored5 (x0 : Vec Ideal S256x1024 .fp8e4m3) (x2 : Vec Ideal S8192x1024 .fp8e4m3) (x3 : Vec Ideal S1x8192 .f32) (j : S256x1024.Idx) :
    k0_pay21 (k0_pay3 x0) (View.ld x2 (Rect.unit ![5120, 0] ![1024, 1024] inb_S8192x1024_S1024x1024_5120_0)) (View.ld x3 (Rect.unit ![0, 5120] ![1, 1024] inb_S1x8192_S1x1024_0_5120)) j
      = gAt x0 x2 x3 (j 0) ⟨5120 + j 1, by have := (j 1).isLt; simp at this; omega⟩ := by
  pointwise [k0_pay21, k0_pay20, k0_pay3]
  rfl

/-- Tile 6 as it is stored. -/
theorem stored6 (x0 : Vec Ideal S256x1024 .fp8e4m3) (x2 : Vec Ideal S8192x1024 .fp8e4m3) (x3 : Vec Ideal S1x8192 .f32) (j : S256x1024.Idx) :
    k0_pay23 (k0_pay3 x0) (View.ld x2 (Rect.unit ![6144, 0] ![1024, 1024] inb_S8192x1024_S1024x1024_6144_0)) (View.ld x3 (Rect.unit ![0, 6144] ![1, 1024] inb_S1x8192_S1x1024_0_6144)) j
      = gAt x0 x2 x3 (j 0) ⟨6144 + j 1, by have := (j 1).isLt; simp at this; omega⟩ := by
  pointwise [k0_pay23, k0_pay22, k0_pay3]
  rfl

/-- Tile 7 as it is stored. -/
theorem stored7 (x0 : Vec Ideal S256x1024 .fp8e4m3) (x2 : Vec Ideal S8192x1024 .fp8e4m3) (x3 : Vec Ideal S1x8192 .f32) (j : S256x1024.Idx) :
    k0_pay27 (k0_pay3 x0) (View.ld x2 (Rect.unit ![7168, 0] ![1024, 1024] inb_S8192x1024_S1024x1024_7168_0)) (View.ld x3 (Rect.unit ![0, 7168] ![1, 1024] inb_S1x8192_S1x1024_0_7168)) j
      = gAt x0 x2 x3 (j 0) ⟨7168 + j 1, by have := (j 1).isLt; simp at this; omega⟩ := by
  pointwise [k0_pay27, k0_pay26, k0_pay3]
  rfl

/-- The scratch holds the products. -/
theorem scratch_canon (x0 : Vec Ideal S256x1024 .fp8e4m3) (x2 : Vec Ideal S8192x1024 .fp8e4m3) (x3 : Vec Ideal S1x8192 .f32)
    (y : S256x8192.Idx) : View.canon (scratch x0 x2 x3) y = gAt x0 x2 x3 (y 0) (y 1) := by
  unfold scratch
  canon_tiles x h
  case piece0 =>
    rw [stored7]
    exact gAt_val (Fin.ext (by simp; omega)) (Fin.ext (by simp; omega))
  case piece1 =>
    rw [stored6]
    exact gAt_val (Fin.ext (by simp; omega)) (Fin.ext (by simp; omega))
  case piece2 =>
    rw [stored5]
    exact gAt_val (Fin.ext (by simp; omega)) (Fin.ext (by simp; omega))
  case piece3 =>
    rw [stored4]
    exact gAt_val (Fin.ext (by simp; omega)) (Fin.ext (by simp; omega))
  case piece4 =>
    rw [stored3]
    exact gAt_val (Fin.ext (by simp; omega)) (Fin.ext (by simp; omega))
  case piece5 =>
    rw [stored2]
    exact gAt_val (Fin.ext (by simp; omega)) (Fin.ext (by simp; omega))
  case piece6 =>
    rw [stored1]
    exact gAt_val (Fin.ext (by simp; omega)) (Fin.ext (by simp; omega))
  case piece7 =>
    rw [stored0]
    exact gAt_val (Fin.ext (by simp; omega)) (Fin.ext (by simp; omega))

end Cert.KernelIdeal.Gen

end
-- ==== Proof.KernelRows.lean ====
/- What one grid point leaves in its two output blocks: the codes and the row scales, each in closed form. -/
module

public import proofs.«01_k».proof.Proof.Gen.KernelIdeal.Value
public import proofs.«01_k».proof.Proof.KernelTile
public import Idealize.ShloMosaic.Lib.Pointwise
public import Idealize.ShloMosaic.Lib.Pipeline.ValueKit
public import Idealize.ShloMosaic.Lib.Pipeline.ReadBack

@[expose] public section

set_option maxRecDepth 16384

noncomputable section

namespace Cert.KernelIdeal.Gen

open Cert.Sq Idealize.ShloMosaic Idealize.SL.Sem

/-- The largest scaled product of a row of the block, or zero, times the row's scale. -/
def hAt (x0 : Vec Ideal S256x1024 .fp8e4m3) (x1 : Vec Ideal S1x256 .f32) (x2 : Vec Ideal S8192x1024 .fp8e4m3) (x3 : Vec Ideal S1x8192 .f32) (r : Fin 256) : EReal :=
  Finset.fold max 0 (fun n : Fin 8192 => gAt x0 x2 x3 r n) Finset.univ * x1 (ix2 0 r)

/-- The row's scale: the power of two. -/
def scaleAt (x0 : Vec Ideal S256x1024 .fp8e4m3) (x1 : Vec Ideal S1x256 .f32) (x2 : Vec Ideal S8192x1024 .fp8e4m3) (x3 : Vec Ideal S1x8192 .f32) (r : Fin 256) : EReal := pow2w (expo (rowArg (hAt x0 x1 x2 x3 r)))

/-- What a row's squares are multiplied by: the inverse power of two, times the row's scale twice. -/
def qAt (x0 : Vec Ideal S256x1024 .fp8e4m3) (x1 : Vec Ideal S1x256 .f32) (x2 : Vec Ideal S8192x1024 .fp8e4m3) (x3 : Vec Ideal S1x8192 .f32) (r : Fin 256) : EReal :=
  pow2w (IntOp.subi (0#32) (expo (rowArg (hAt x0 x1 x2 x3 r)))) * x1 (ix2 0 r) * x1 (ix2 0 r)

/-- The code of token `r` of the block at channel `n`. -/
def codeAt (x0 : Vec Ideal S256x1024 .fp8e4m3) (x1 : Vec Ideal S1x256 .f32) (x2 : Vec Ideal S8192x1024 .fp8e4m3) (x3 : Vec Ideal S1x8192 .f32) (r : Fin 256) (n : Fin 8192) : EReal :=
  clip (max (gAt x0 x2 x3 r n) 0 * max (gAt x0 x2 x3 r n) 0 * qAt x0 x1 x2 x3 r)

/-- A sum that keeps one term only. -/
theorem diag_row (f : Fin 128 → EReal) (r : Fin 128) :
    (∑ x : Fin 128, Scalar.select (IntOp.cmpi CmpIPredicate.eq (BitVec.ofNat 32 ↑r) (BitVec.ofNat 32 ↑x)) (f x) 0) = f r := by
  have key : ∀ a b : Fin 128, IntOp.cmpi CmpIPredicate.eq (BitVec.ofNat 32 ↑a) (BitVec.ofNat 32 ↑b) = if b = a then 1#1 else 0#1 := by
    intro a b
    have ha := a.isLt
    have hb := b.isLt
    by_cases h : a.val = b.val
    · simp [IntOp.cmpi, Fin.ext_iff, h]
    · have e : (BitVec.ofNat 32 a.val == BitVec.ofNat 32 b.val) = false := by
        rw [beq_eq_false_iff_ne]
        intro e
        have := congrArg BitVec.toNat e
        simp only [BitVec.toNat_ofNat] at this
        omega
      simp [IntOp.cmpi, Fin.ext_iff, h, Ne.symm h, e]
  rw [Finset.sum_eq_single r]
  · rw [key, if_pos rfl]; rfl
  · intro b _ hb
    rw [key, if_neg hb]; rfl
  · intro h; exact absurd (Finset.mem_univ _) h

theorem diag_col (f : Fin 128 → EReal) (r : Fin 128) :
    (∑ x : Fin 128, Scalar.select (IntOp.cmpi CmpIPredicate.eq (BitVec.ofNat 32 ↑x) (BitVec.ofNat 32 ↑r)) (f x) 0) = f r := by
  have key : ∀ a b : Fin 128, IntOp.cmpi CmpIPredicate.eq (BitVec.ofNat 32 ↑a) (BitVec.ofNat 32 ↑b) = if a = b then 1#1 else 0#1 := by
    intro a b
    have ha := a.isLt
    have hb := b.isLt
    by_cases h : a.val = b.val
    · simp [IntOp.cmpi, Fin.ext_iff, h]
    · have e : (BitVec.ofNat 32 a.val == BitVec.ofNat 32 b.val) = false := by
        rw [beq_eq_false_iff_ne]
        intro e
        have := congrArg BitVec.toNat e
        simp only [BitVec.toNat_ofNat] at this
        omega
      simp [IntOp.cmpi, Fin.ext_iff, h, Ne.symm h, e]
  rw [Finset.sum_eq_single r]
  · rw [key, if_pos rfl]; rfl
  · intro b _ hb
    rw [key, if_neg hb]; rfl
  · intro h; exact absurd (Finset.mem_univ _) h

/-- The scales of rows 0 to 127, as a column. -/
theorem xs_lo (x1 : Vec Ideal S1x256 .f32) (j : S128x1.Idx) : k0_pay30 (View.ld x1 (Rect.unit ![0, 0] ![1, 128] inb_S1x256_S1x128_0_0)) j = x1 (ix2 0 ⟨j 0, by have := (j 0).isLt; simp at this; omega⟩) := by
  pointwise [k0_pay30, k0_pay29]
  exact diag_row (fun x => x1 (ix2 0 ⟨x, by have := x.isLt; omega⟩)) (j 0)

/-- The scales of rows 128 to 255, as a column. -/
theorem xs_hi (x1 : Vec Ideal S1x256 .f32) (j : S128x1.Idx) : k0_pay44 k0_pay29 (View.ld x1 (Rect.unit ![0, 128] ![1, 128] inb_S1x256_S1x128_0_128)) j = x1 (ix2 0 ⟨128 + j 0, by have := (j 0).isLt; simp at this; omega⟩) := by
  pointwise [k0_pay44, k0_pay29]
  exact diag_row (fun x => x1 (ix2 0 ⟨128 + x, by have := x.isLt; omega⟩)) (j 0)

/-- The row maxima of rows 0 to 127, scaled. -/
abbrev hLo (x0 : Vec Ideal S256x1024 .fp8e4m3) (x1 : Vec Ideal S1x256 .f32) (x2 : Vec Ideal S8192x1024 .fp8e4m3) (x3 : Vec Ideal S1x8192 .f32) : FVec Ideal S128x1 .f32 :=
    (k0_pay31 (k0_pay3 x0) (k0_pay22 (k0_pay3 x0) (View.ld x2 (Rect.unit ![6144, 0] ![1024, 1024] inb_S8192x1024_S1024x1024_6144_0)) (View.ld x3 (Rect.unit ![0, 6144] ![1, 1024] inb_S1x8192_S1x1024_0_6144)))
      (k0_pay24 (k0_pay3 x0)
        (k0_pay19 (k0_pay3 x0)
          (k0_pay12 (k0_pay3 x0) (k0_pay6 x0 (View.ld x2 (Rect.unit ![0, 0] ![1024, 1024] inb_S8192x1024_S1024x1024_0_0)) (View.ld x3 (Rect.unit ![0, 0] ![1, 1024] inb_S1x8192_S1x1024_0_0)))
            (k0_pay7 x0 (View.ld x2 (Rect.unit ![1024, 0] ![1024, 1024] inb_S8192x1024_S1024x1024_1024_0)) (View.ld x3 (Rect.unit ![0, 1024] ![1, 1024] inb_S1x8192_S1x1024_0_1024)))
            (k0_pay9 x0 (View.ld x2 (Rect.unit ![1024, 0] ![1024, 1024] inb_S8192x1024_S1024x1024_1024_0)) (View.ld x3 (Rect.unit ![0, 1024] ![1, 1024] inb_S1x8192_S1x1024_0_1024)))
            (View.ld x2 (Rect.unit ![2048, 0] ![1024, 1024] inb_S8192x1024_S1024x1024_2048_0)) (View.ld x3 (Rect.unit ![0, 2048] ![1, 1024] inb_S1x8192_S1x1024_0_2048)))
          (k0_pay13 (k0_pay3 x0) (View.ld x2 (Rect.unit ![3072, 0] ![1024, 1024] inb_S8192x1024_S1024x1024_3072_0))) (k0_pay14 (View.ld x3 (Rect.unit ![0, 3072] ![1, 1024] inb_S1x8192_S1x1024_0_3072)))
          (View.ld x2 (Rect.unit ![4096, 0] ![1024, 1024] inb_S8192x1024_S1024x1024_4096_0)) (View.ld x3 (Rect.unit ![0, 4096] ![1, 1024] inb_S1x8192_S1x1024_0_4096)))
        (View.ld x2 (Rect.unit ![5120, 0] ![1024, 1024] inb_S8192x1024_S1024x1024_5120_0)) (View.ld x3 (Rect.unit ![0, 5120] ![1, 1024] inb_S1x8192_S1x1024_0_5120))
        (View.ld x2 (Rect.unit ![6144, 0] ![1024, 1024] inb_S8192x1024_S1024x1024_6144_0)) (View.ld x3 (Rect.unit ![0, 6144] ![1, 1024] inb_S1x8192_S1x1024_0_6144)))
      (k0_pay25 (k0_pay3 x0) (View.ld x2 (Rect.unit ![6144, 0] ![1024, 1024] inb_S8192x1024_S1024x1024_6144_0)) (View.ld x3 (Rect.unit ![0, 6144] ![1, 1024] inb_S1x8192_S1x1024_0_6144)))
      (View.ld x2 (Rect.unit ![7168, 0] ![1024, 1024] inb_S8192x1024_S1024x1024_7168_0)) (View.ld x3 (Rect.unit ![0, 7168] ![1, 1024] inb_S1x8192_S1x1024_0_7168))
      (View.ld x1 (Rect.unit ![0, 0] ![1, 128] inb_S1x256_S1x128_0_0)))

/-- The row maxima of rows 128 to 255, scaled. -/
abbrev hHi (x0 : Vec Ideal S256x1024 .fp8e4m3) (x1 : Vec Ideal S1x256 .f32) (x2 : Vec Ideal S8192x1024 .fp8e4m3) (x3 : Vec Ideal S1x8192 .f32) : FVec Ideal S128x1 .f32 :=
    k0_pay45 (topTile x0 x2 x3) k0_pay29 (View.ld x1 (Rect.unit ![0, 128] ![1, 128] inb_S1x256_S1x128_0_128))

theorem hLo_apply (x0 : Vec Ideal S256x1024 .fp8e4m3) (x1 : Vec Ideal S1x256 .f32) (x2 : Vec Ideal S8192x1024 .fp8e4m3) (x3 : Vec Ideal S1x8192 .f32) (j : S128x1.Idx) :
    hLo x0 x1 x2 x3 j = hAt x0 x1 x2 x3 ⟨j 0, by have := (j 0).isLt; simp at this; omega⟩ := by
  unfold hLo
  pointwise [k0_pay31]
  rw [xs_lo]
  unfold hAt
  rw [← rowMax]

theorem hHi_apply (x0 : Vec Ideal S256x1024 .fp8e4m3) (x1 : Vec Ideal S1x256 .f32) (x2 : Vec Ideal S8192x1024 .fp8e4m3) (x3 : Vec Ideal S1x8192 .f32) (j : S128x1.Idx) :
    hHi x0 x1 x2 x3 j = hAt x0 x1 x2 x3 ⟨128 + j 0, by have := (j 0).isLt; simp at this; omega⟩ := by
  unfold hHi
  pointwise [k0_pay45]
  rw [xs_hi]
  unfold hAt
  rw [← rowMax]

theorem qLo_apply (x0 : Vec Ideal S256x1024 .fp8e4m3) (x1 : Vec Ideal S1x256 .f32) (x2 : Vec Ideal S8192x1024 .fp8e4m3) (x3 : Vec Ideal S1x8192 .f32) (j : S128x1.Idx) :
    k0_pay34 (k0_pay30 (View.ld x1 (Rect.unit ![0, 0] ![1, 128] inb_S1x256_S1x128_0_0))) (hLo x0 x1 x2 x3) k0_pay32 j = qAt x0 x1 x2 x3 ⟨j 0, by have := (j 0).isLt; simp at this; omega⟩ := by
  pointwise [k0_pay34, k0_pay33, k0_pay32]
  simp only [hLo_apply, xs_lo]
  rfl

theorem qHi_apply (x0 : Vec Ideal S256x1024 .fp8e4m3) (x1 : Vec Ideal S1x256 .f32) (x2 : Vec Ideal S8192x1024 .fp8e4m3) (x3 : Vec Ideal S1x8192 .f32) (j : S128x1.Idx) :
    k0_pay47 (k0_pay44 k0_pay29 (View.ld x1 (Rect.unit ![0, 128] ![1, 128] inb_S1x256_S1x128_0_128))) (hHi x0 x1 x2 x3) (FloatOps.ofBits FTy.f32 0#32) j
      = qAt x0 x1 x2 x3 ⟨128 + j 0, by have := (j 0).isLt; simp at this; omega⟩ := by
  pointwise [k0_pay47, k0_pay46]
  simp only [hHi_apply, xs_hi]
  rfl

theorem ysLo_apply (x0 : Vec Ideal S256x1024 .fp8e4m3) (x1 : Vec Ideal S1x256 .f32) (x2 : Vec Ideal S8192x1024 .fp8e4m3) (x3 : Vec Ideal S1x8192 .f32) (j : S1x128.Idx) :
    k0_pay35 k0_pay29 (hLo x0 x1 x2 x3) k0_pay32 j = scaleAt x0 x1 x2 x3 ⟨j 1, by have := (j 1).isLt; simp at this; omega⟩ := by
  pointwise [k0_pay35, k0_pay33, k0_pay32, k0_pay29]
  simp only [hLo_apply]
  exact diag_col (fun x => scaleAt x0 x1 x2 x3 ⟨x, by have := x.isLt; omega⟩) (j 1)

theorem ysHi_apply (x0 : Vec Ideal S256x1024 .fp8e4m3) (x1 : Vec Ideal S1x256 .f32) (x2 : Vec Ideal S8192x1024 .fp8e4m3) (x3 : Vec Ideal S1x8192 .f32) (j : S1x128.Idx) :
    k0_pay48 k0_pay29 (hHi x0 x1 x2 x3) (FloatOps.ofBits FTy.f32 0#32) j
      = scaleAt x0 x1 x2 x3 ⟨128 + j 1, by have := (j 1).isLt; simp at this; omega⟩ := by
  pointwise [k0_pay48, k0_pay46, k0_pay29]
  simp only [hHi_apply]
  exact diag_col (fun x => scaleAt x0 x1 x2 x3 ⟨128 + x, by have := x.isLt; omega⟩) (j 1)

end Cert.KernelIdeal.Gen

end
-- ==== Proof.KernelBlock.lean ====
/- What one grid point leaves in its two output blocks: the codes and the row scales, each in closed form. -/
module

public import proofs.«01_k».proof.Proof.Gen.KernelIdeal.Value
public import proofs.«01_k».proof.Proof.KernelRows
public import Idealize.ShloMosaic.Lib.Pointwise
public import Idealize.ShloMosaic.Lib.Pipeline.ValueKit
public import Idealize.ShloMosaic.Lib.Pipeline.ReadBack

@[expose] public section

set_option maxRecDepth 16384

noncomputable section

namespace Cert.KernelIdeal.Gen

open Cert.Sq Idealize.ShloMosaic Idealize.SL.Sem

theorem code36 (w : FVec Ideal S128x1 .f32) (v : Vec Ideal S128x1024 .f32) (j : S128x1024.Idx) :
    k0_pay36 w v j = clip (max (v j) 0 * max (v j) 0 * w (ix2 (j 0) 0)) := by
  pointwise [k0_pay36]
  rfl

theorem code37 (w : FVec Ideal S128x1 .f32) (v : Vec Ideal S128x1024 .f32) (j : S128x1024.Idx) :
    k0_pay37 w v j = clip (max (v j) 0 * max (v j) 0 * w (ix2 (j 0) 0)) := by
  pointwise [k0_pay37]
  rfl

theorem code38 (w : FVec Ideal S128x1 .f32) (v : Vec Ideal S128x1024 .f32) (j : S128x1024.Idx) :
    k0_pay38 w v j = clip (max (v j) 0 * max (v j) 0 * w (ix2 (j 0) 0)) := by
  pointwise [k0_pay38]
  rfl

theorem code39 (w : FVec Ideal S128x1 .f32) (v : Vec Ideal S128x1024 .f32) (j : S128x1024.Idx) :
    k0_pay39 w v j = clip (max (v j) 0 * max (v j) 0 * w (ix2 (j 0) 0)) := by
  pointwise [k0_pay39]
  rfl

theorem code40 (w : FVec Ideal S128x1 .f32) (v : Vec Ideal S128x1024 .f32) (j : S128x1024.Idx) :
    k0_pay40 w v j = clip (max (v j) 0 * max (v j) 0 * w (ix2 (j 0) 0)) := by
  pointwise [k0_pay40]
  rfl

theorem code41 (w : FVec Ideal S128x1 .f32) (v : Vec Ideal S128x1024 .f32) (j : S128x1024.Idx) :
    k0_pay41 w v j = clip (max (v j) 0 * max (v j) 0 * w (ix2 (j 0) 0)) := by
  pointwise [k0_pay41]
  rfl

theorem code42 (w : FVec Ideal S128x1 .f32) (v : Vec Ideal S128x1024 .f32) (j : S128x1024.Idx) :
    k0_pay42 w v j = clip (max (v j) 0 * max (v j) 0 * w (ix2 (j 0) 0)) := by
  pointwise [k0_pay42]
  rfl

theorem code43 (w : FVec Ideal S128x1 .f32) (v : Vec Ideal S128x1024 .f32) (j : S128x1024.Idx) :
    k0_pay43 w v j = clip (max (v j) 0 * max (v j) 0 * w (ix2 (j 0) 0)) := by
  pointwise [k0_pay43]
  rfl

theorem code49 (w : FVec Ideal S128x1 .f32) (v : Vec Ideal S128x1024 .f32) (j : S128x1024.Idx) :
    k0_pay49 w v j = clip (max (v j) 0 * max (v j) 0 * w (ix2 (j 0) 0)) := by
  pointwise [k0_pay49]
  rfl

theorem code50 (w : FVec Ideal S128x1 .f32) (v : Vec Ideal S128x1024 .f32) (j : S128x1024.Idx) :
    k0_pay50 w v j = clip (max (v j) 0 * max (v j) 0 * w (ix2 (j 0) 0)) := by
  pointwise [k0_pay50]
  rfl

theorem code51 (w : FVec Ideal S128x1 .f32) (v : Vec Ideal S128x1024 .f32) (j : S128x1024.Idx) :
    k0_pay51 w v j = clip (max (v j) 0 * max (v j) 0 * w (ix2 (j 0) 0)) := by
  pointwise [k0_pay51]
  rfl

theorem code52 (w : FVec Ideal S128x1 .f32) (v : Vec Ideal S128x1024 .f32) (j : S128x1024.Idx) :
    k0_pay52 w v j = clip (max (v j) 0 * max (v j) 0 * w (ix2 (j 0) 0)) := by
  pointwise [k0_pay52]
  rfl

theorem code53 (w : FVec Ideal S128x1 .f32) (v : Vec Ideal S128x1024 .f32) (j : S128x1024.Idx) :
    k0_pay53 w v j = clip (max (v j) 0 * max (v j) 0 * w (ix2 (j 0) 0)) := by
  pointwise [k0_pay53]
  rfl

theorem code54 (w : FVec Ideal S128x1 .f32) (v : Vec Ideal S128x1024 .f32) (j : S128x1024.Idx) :
    k0_pay54 w v j = clip (max (v j) 0 * max (v j) 0 * w (ix2 (j 0) 0)) := by
  pointwise [k0_pay54]
  rfl

theorem code1 (w : FVec Ideal S128x1 .f32) (v : Vec Ideal S128x1024 .f32) (j : S128x1024.Idx) :
    k0_pay1 w v j = clip (max (v j) 0 * max (v j) 0 * w (ix2 (j 0) 0)) := by
  pointwise [k0_pay1]
  rfl

theorem code2 (w : FVec Ideal S128x1 .f32) (v : Vec Ideal S128x1024 .f32) (j : S128x1024.Idx) :
    k0_pay2 w v j = clip (max (v j) 0 * max (v j) 0 * w (ix2 (j 0) 0)) := by
  pointwise [k0_pay2]
  rfl

theorem code_val {x0 : Vec Ideal S256x1024 .fp8e4m3} {x1 : Vec Ideal S1x256 .f32} {x2 : Vec Ideal S8192x1024 .fp8e4m3}
    {x3 : Vec Ideal S1x8192 .f32} {r r' r'' : Fin 256} {n n' : Fin 8192} (hr : r.val = r'.val) (hn : n.val = n'.val)
    (hr' : r''.val = r'.val) :
    clip (max (gAt x0 x2 x3 r n) 0 * max (gAt x0 x2 x3 r n) 0 * qAt x0 x1 x2 x3 r'') = codeAt x0 x1 x2 x3 r' n' := by
  obtain rfl := Fin.ext hr
  obtain rfl := Fin.ext hn
  obtain rfl := Fin.ext hr'
  rfl

theorem out4_apply (c : Dev nD) (i : grid0.Coords) (arg1 : Memref sig .tc .vmem S256x1024 .fp8e4m3) (harg1 : arg1.IsWhole) (arg2 : Memref sig .tc .vmem S1x256 .f32) (harg2 : arg2.IsWhole) (arg3 : Memref sig .tc .vmem S8192x1024 .fp8e4m3) (harg3 : arg3.IsWhole) (arg4 : Memref sig .tc .vmem S1x8192 .f32) (harg4 : arg4.IsWhole) (arg5 : Memref sig .tc .vmem S256x8192 .fp8e5m2) (harg5 : arg5.IsWhole) (arg6 : Memref sig .tc .vmem S1x256 .f32) (harg6 : arg6.IsWhole) (arg7 : Memref sig .tc .vmem S256x8192 .f32) (harg7 : arg7.IsWhole)
    (x0 : Vec Ideal S256x1024 .fp8e4m3) (x1 : Vec Ideal S1x256 .f32) (x2 : Vec Ideal S8192x1024 .fp8e4m3) (x3 : Vec Ideal S1x8192 .f32) (y : S256x8192.Idx) : out0_A_4 c i arg1 harg1 arg2 harg2 arg3 harg3 arg4 harg4 arg5 harg5 arg6 harg6 arg7 harg7 x0 x1 x2 x3 y = codeAt x0 x1 x2 x3 (y 0) (y 1) := by
  frame_out
  canon_tiles x h
  case piece0 =>
    rw [code2, qHi_apply, View.readCov_eq_canon']
    beta_reduce
    rw [scratch_canon]
    exact code_val (by show 128 + 1 * (x 0).val = _; omega) (by show 7168 + 1 * (x 1).val = _; omega) (by show 128 + (x 0).val = _; omega)
  case piece1 =>
    rw [code1, qHi_apply, View.readCov_eq_canon']
    beta_reduce
    rw [scratch_canon]
    exact code_val (by show 128 + 1 * (x 0).val = _; omega) (by show 6144 + 1 * (x 1).val = _; omega) (by show 128 + (x 0).val = _; omega)
  case piece2 =>
    rw [code54, qHi_apply, View.readCov_eq_canon']
    beta_reduce
    rw [scratch_canon]
    exact code_val (by show 128 + 1 * (x 0).val = _; omega) (by show 5120 + 1 * (x 1).val = _; omega) (by show 128 + (x 0).val = _; omega)
  case piece3 =>
    rw [code53, qHi_apply, View.readCov_eq_canon']
    beta_reduce
    rw [scratch_canon]
    exact code_val (by show 128 + 1 * (x 0).val = _; omega) (by show 4096 + 1 * (x 1).val = _; omega) (by show 128 + (x 0).val = _; omega)
  case piece4 =>
    rw [code52, qHi_apply, View.readCov_eq_canon']
    beta_reduce
    rw [scratch_canon]
    exact code_val (by show 128 + 1 * (x 0).val = _; omega) (by show 3072 + 1 * (x 1).val = _; omega) (by show 128 + (x 0).val = _; omega)
  case piece5 =>
    rw [code51, qHi_apply, View.readCov_eq_canon']
    beta_reduce
    rw [scratch_canon]
    exact code_val (by show 128 + 1 * (x 0).val = _; omega) (by show 2048 + 1 * (x 1).val = _; omega) (by show 128 + (x 0).val = _; omega)
  case piece6 =>
    rw [code50, qHi_apply, View.readCov_eq_canon']
    beta_reduce
    rw [scratch_canon]
    exact code_val (by show 128 + 1 * (x 0).val = _; omega) (by show 1024 + 1 * (x 1).val = _; omega) (by show 128 + (x 0).val = _; omega)
  case piece7 =>
    rw [code49, qHi_apply, View.readCov_eq_canon']
    beta_reduce
    rw [scratch_canon]
    exact code_val (by show 128 + 1 * (x 0).val = _; omega) (by show 0 + 1 * (x 1).val = _; omega) (by show 128 + (x 0).val = _; omega)
  case piece8 =>
    rw [code43, qLo_apply, View.readCov_eq_canon']
    beta_reduce
    rw [scratch_canon]
    exact code_val (by show 0 + 1 * (x 0).val = _; omega) (by show 7168 + 1 * (x 1).val = _; omega) (by show (x 0).val = _; omega)
  case piece9 =>
    rw [code42, qLo_apply, View.readCov_eq_canon']
    beta_reduce
    rw [scratch_canon]
    exact code_val (by show 0 + 1 * (x 0).val = _; omega) (by show 6144 + 1 * (x 1).val = _; omega) (by show (x 0).val = _; omega)
  case piece10 =>
    rw [code41, qLo_apply, View.readCov_eq_canon']
    beta_reduce
    rw [scratch_canon]
    exact code_val (by show 0 + 1 * (x 0).val = _; omega) (by show 5120 + 1 * (x 1).val = _; omega) (by show (x 0).val = _; omega)
  case piece11 =>
    rw [code40, qLo_apply, View.readCov_eq_canon']
    beta_reduce
    rw [scratch_canon]
    exact code_val (by show 0 + 1 * (x 0).val = _; omega) (by show 4096 + 1 * (x 1).val = _; omega) (by show (x 0).val = _; omega)
  case piece12 =>
    rw [code39, qLo_apply, View.readCov_eq_canon']
    beta_reduce
    rw [scratch_canon]
    exact code_val (by show 0 + 1 * (x 0).val = _; omega) (by show 3072 + 1 * (x 1).val = _; omega) (by show (x 0).val = _; omega)
  case piece13 =>
    rw [code38, qLo_apply, View.readCov_eq_canon']
    beta_reduce
    rw [scratch_canon]
    exact code_val (by show 0 + 1 * (x 0).val = _; omega) (by show 2048 + 1 * (x 1).val = _; omega) (by show (x 0).val = _; omega)
  case piece14 =>
    rw [code37, qLo_apply, View.readCov_eq_canon']
    beta_reduce
    rw [scratch_canon]
    exact code_val (by show 0 + 1 * (x 0).val = _; omega) (by show 1024 + 1 * (x 1).val = _; omega) (by show (x 0).val = _; omega)
  case piece15 =>
    rw [code36, qLo_apply, View.readCov_eq_canon']
    beta_reduce
    rw [scratch_canon]
    exact code_val (by show 0 + 1 * (x 0).val = _; omega) (by show 0 + 1 * (x 1).val = _; omega) (by show (x 0).val = _; omega)

theorem out5_apply (c : Dev nD) (i : grid0.Coords) (arg1 : Memref sig .tc .vmem S256x1024 .fp8e4m3) (harg1 : arg1.IsWhole) (arg2 : Memref sig .tc .vmem S1x256 .f32) (harg2 : arg2.IsWhole) (arg3 : Memref sig .tc .vmem S8192x1024 .fp8e4m3) (harg3 : arg3.IsWhole) (arg4 : Memref sig .tc .vmem S1x8192 .f32) (harg4 : arg4.IsWhole) (arg5 : Memref sig .tc .vmem S256x8192 .fp8e5m2) (harg5 : arg5.IsWhole) (arg6 : Memref sig .tc .vmem S1x256 .f32) (harg6 : arg6.IsWhole) (arg7 : Memref sig .tc .vmem S256x8192 .f32) (harg7 : arg7.IsWhole)
    (x0 : Vec Ideal S256x1024 .fp8e4m3) (x1 : Vec Ideal S1x256 .f32) (x2 : Vec Ideal S8192x1024 .fp8e4m3) (x3 : Vec Ideal S1x8192 .f32) (y : S1x256.Idx) : out0_A_5 c i arg1 harg1 arg2 harg2 arg3 harg3 arg4 harg4 arg5 harg5 arg6 harg6 arg7 harg7 x0 x1 x2 x3 y = scaleAt x0 x1 x2 x3 (y 1) := by
  frame_out
  canon_tiles x h
  case piece0 =>
    rw [ysHi_apply]
    exact congrArg (scaleAt x0 x1 x2 x3) (Fin.ext h1.symm)
  case piece1 =>
    rw [ysLo_apply]
    exact congrArg (scaleAt x0 x1 x2 x3) (Fin.ext h1.symm)

end Cert.KernelIdeal.Gen

end
-- ==== Proof.KernelArray.lean ====
/- What the kernel's two result arrays hold after the run: row by row, the kernel's codes and its scale. -/
module

public import proofs.«01_k».proof.Proof.Gen.KernelIdeal.Value
public import proofs.«01_k».proof.Proof.KernelBlock
public import proofs.«01_k».proof.Proof.Row
public import Idealize.ShloMosaic.Lib.Pointwise
public import Idealize.ShloMosaic.Lib.Pipeline.ValueKit
public import Idealize.ShloMosaic.Lib.Pipeline.ReadBack
public import Idealize.ShloMosaic.Lib.ValueLayout
public import Idealize.ShloMosaic.Lib.StableHlo.ReadAt

@[expose] public section

set_option maxRecDepth 16384

noncomputable section

namespace Cert.KernelIdeal.Gen

open Cert.Sq Idealize.ShloMosaic Idealize.SL.Sem Idealize.ShloMosaic.TcCoe

variable (m : (ℓ : Loc nD τ sig) → Buf (Elt Ideal) ℓ)

/-- The four arrays as the launch finds them: activations, row scales, weights, channel scales. -/
abbrev aX (c : Dev nD) : Vec Ideal S3072x1024 .fp8e4m3 := V m c main_v2
abbrev aXs (c : Dev nD) : Vec Ideal S1x3072 .f32 := V m c main_arg1
abbrev aW (c : Dev nD) : Vec Ideal S8192x1024 .fp8e4m3 := V m c main_v1
abbrev aWs (c : Dev nD) : Vec Ideal S1x8192 .f32 := V m c main_v3

theorem idx0 : ∀ t : Fin cfg0.N, win0_0.index t = ![(grid0.coords t 0).val, 0] := (by decide +kernel : ∀ t : Fin grid0.N, _)
theorem idx1 : ∀ t : Fin cfg0.N, win0_1.index t = ![0, (grid0.coords t 0).val] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![(grid0.coords t 0).val, 0] := (by decide +kernel : ∀ t : Fin grid0.N, _)
theorem idx5 : ∀ t : Fin cfg0.N, win0_5.index t = ![0, (grid0.coords t 0).val] := (by decide +kernel : ∀ t : Fin grid0.N, _)

/-- The codes' array. -/
def arr4 (c : Dev nD) : Vec Ideal S3072x8192 .fp8e5m2 := fun y =>
  kCode (fun k => aX m c (ix2 (y 0) k)) (aXs m c (ix2 0 (y 0))) (fun n k => aW m c (ix2 n k)) (fun n => aWs m c (ix2 0 n)) (y 1)

/-- The scales' array. -/
def arr5 (c : Dev nD) : Vec Ideal S1x3072 .f32 := fun y =>
  kScale (fun k => aX m c (ix2 (y 1) k)) (aXs m c (ix2 0 (y 1))) (fun n k => aW m c (ix2 n k)) (fun n => aWs m c (ix2 0 n))

theorem codeAt_eq (x0 : Vec Ideal S256x1024 .fp8e4m3) (x1 : Vec Ideal S1x256 .f32) (x2 : Vec Ideal S8192x1024 .fp8e4m3) (x3 : Vec Ideal S1x8192 .f32) (r : Fin 256) (n : Fin 8192) :
    codeAt x0 x1 x2 x3 r n = kCode (fun k => x0 (ix2 r k)) (x1 (ix2 0 r)) (fun n k => x2 (ix2 n k)) (fun n => x3 (ix2 0 n)) n := rfl

theorem scaleAt_eq (x0 : Vec Ideal S256x1024 .fp8e4m3) (x1 : Vec Ideal S1x256 .f32) (x2 : Vec Ideal S8192x1024 .fp8e4m3) (x3 : Vec Ideal S1x8192 .f32) (r : Fin 256) :
    scaleAt x0 x1 x2 x3 r = kScale (fun k => x0 (ix2 r k)) (x1 (ix2 0 r)) (fun n k => x2 (ix2 n k)) (fun n => x3 (ix2 0 n)) := rfl

theorem blk0 (c : Dev nD) (t : Fin cfg0.N) (r : Fin 256) (k : Fin 1024) (s : Fin 3072) (hs : s.val = (grid0.coords t 0).val * 256 + r.val) :
    iblk m c 0 t (ix2 r k) = aX m c (ix2 s k) := by
  blk_simp [iblk]
  refine congrArg (V m c main_v2) ?_
  blk_ext [idx0, ix2, hs]

theorem blk1 (c : Dev nD) (t : Fin cfg0.N) (r : Fin 256) (s : Fin 3072) (hs : s.val = (grid0.coords t 0).val * 256 + r.val) :
    iblk m c 1 t (ix2 0 r) = aXs m c (ix2 0 s) := by
  blk_simp [iblk]
  refine congrArg (V m c main_arg1) ?_
  blk_ext [idx1, ix2, hs]

theorem blk2 (c : Dev nD) (t : Fin cfg0.N) (n : Fin 8192) (k : Fin 1024) :
    iblk m c 2 t (ix2 n k) = aW m c (ix2 n k) := by
  blk_simp [iblk]
  refine congrArg (V m c main_v1) ?_
  blk_ext [idx2, ix2]

theorem blk3 (c : Dev nD) (t : Fin cfg0.N) (n : Fin 8192) :
    iblk m c 3 t (ix2 0 n) = aWs m c (ix2 0 n) := by
  blk_simp [iblk]
  refine congrArg (V m c main_v3) ?_
  blk_ext [idx3, ix2]

theorem row0 (t : Fin cfg0.N) (y : S256x8192.Idx) : ((((cfg0.win 4).blk t).view.emb y) 0).val = (grid0.coords t 0).val * 256 + (y 0).val := by
  blk_simp [idx4]

theorem chan0 (t : Fin cfg0.N) (y : S256x8192.Idx) : (((cfg0.win 4).blk t).view.emb y) 1 = y 1 := by
  apply Fin.ext
  blk_simp [idx4]

theorem row1 (t : Fin cfg0.N) (y : S1x256.Idx) : ((((cfg0.win 5).blk t).view.emb y) 1).val = (grid0.coords t 0).val * 256 + (y 1).val := by
  blk_simp [idx5]

/-- A block's row of codes is the array's row. -/
theorem code_blk (c : Dev nD) (t : Fin cfg0.N) (r : Fin 256) (n : Fin 8192) (s : Fin 3072) (hs : s.val = (grid0.coords t 0).val * 256 + r.val) :
    codeAt (iblk m c 0 t) (iblk m c 1 t) (iblk m c 2 t) (iblk m c 3 t) r n
      = kCode (fun k => aX m c (ix2 s k)) (aXs m c (ix2 0 s)) (fun n k => aW m c (ix2 n k)) (fun n => aWs m c (ix2 0 n)) n := by
  rw [codeAt_eq]
  simp only [blk0 m c t r _ s hs, blk1 m c t r s hs, blk2, blk3]

/-- A block's row scale is the array's. -/
theorem scale_blk (c : Dev nD) (t : Fin cfg0.N) (r : Fin 256) (s : Fin 3072) (hs : s.val = (grid0.coords t 0).val * 256 + r.val) :
    scaleAt (iblk m c 0 t) (iblk m c 1 t) (iblk m c 2 t) (iblk m c 3 t) r
      = kScale (fun k => aX m c (ix2 s k)) (aXs m c (ix2 0 s)) (fun n k => aW m c (ix2 n k)) (fun n => aWs m c (ix2 0 n)) := by
  rw [scaleAt_eq]
  simp only [blk0 m c t r _ s hs, blk1 m c t r s hs, blk2, blk3]

theorem final4 (c : Dev nD) : (dats m 0 c).arrAt 4 cfg0.N = arr4 m c := by
  refine (dats m 0 c).arrAt_eq_of_covers 4 _ (by decide +kernel) fun t hf y => ?_
  have key : ((dats m 0 c).flushed 4 t) y = arr4 m c (((cfg0.win 4).blk t).view.emb y) := by
    rw [Value.flushed4_A]
    refine (out4_apply c (grid0.coords t) _ _ _ _ _ _ _ _ _ _ _ _ _ _ _ _ _ _ y).trans ?_
    rw [code_blk m c t (y 0) (y 1) _ (row0 t y)]
    unfold arr4
    rw [chan0]
  exact key

theorem final5 (c : Dev nD) : (dats m 0 c).arrAt 5 cfg0.N = arr5 m c := by
  refine (dats m 0 c).arrAt_eq_of_covers 5 _ (by decide +kernel) fun t hf y => ?_
  have key : ((dats m 0 c).flushed 5 t) y = arr5 m c (((cfg0.win 5).blk t).view.emb y) := by
    rw [Value.flushed5_A]
    refine (out5_apply c (grid0.coords t) _ _ _ _ _ _ _ _ _ _ _ _ _ _ _ _ _ _ y).trans ?_
    exact scale_blk m c t (y 1) _ (row1 t y)
  exact key

/-- The activations: the bytes of the first argument. -/
theorem aX_apply (c : Dev nD) (s : Fin 3072) (k : Fin 1024) :
    aX m c (ix2 s k) = Ideal.ofBits .fp8e4m3 (m ((c : Thread nD τ).loc main_arg0) (ix3 0 s k)) := by
  unfold aX V
  after_reads_at

theorem aW_apply (c : Dev nD) (n : Fin 8192) (k : Fin 1024) :
    aW m c (ix2 n k) = Ideal.ofBits .fp8e4m3 (m ((c : Thread nD τ).loc main_arg2) (ix2 n k)) := by
  unfold aW V
  after_reads_at

theorem aXs_apply (c : Dev nD) (s : Fin 3072) : aXs m c (ix2 0 s) = m ((c : Thread nD τ).loc main_arg1) (ix2 0 s) := by
  unfold aXs
  rw [V_main_arg1]

theorem aWs_apply (c : Dev nD) (n : Fin 8192) : aWs m c (ix2 0 n) = m ((c : Thread nD τ).loc main_arg3) (ix1 n) := by
  unfold aWs V
  after_reads_at

end Cert.KernelIdeal.Gen

end
-- ==== Proof.RefRows.lean ====
/- What the reference computes at one index of each result. -/
module

public import proofs.«01_k».proof.Proof.Gen.ReferenceIdeal.Frame
public import proofs.«01_k».proof.Proof.Row
public import Idealize.ShloMosaic.Lib.Pointwise
public import Idealize.ShloMosaic.Lib.Pipeline.ValueKit
public import Idealize.ShloMosaic.Lib.Pipeline.ReadBack
public import Idealize.ShloMosaic.Lib.ValueLayout
public import Idealize.ShloMosaic.Lib.StableHlo.ReadAt

@[expose] public section

set_option maxRecDepth 16384

noncomputable section

namespace Cert.ReferenceIdeal.Gen

open Cert.Sq Idealize.ShloMosaic Idealize.SL.Sem Idealize.ShloMosaic.TcCoe

/-- The squared activations. -/
theorem pay3_apply (x0 : Vec Ideal S3072x1024 .fp8e4m3) (x2 : Vec Ideal S8192x1024 .fp8e4m3) (x1 : Vec Ideal S3072x1 .f32) (x3 : Vec Ideal S1x8192 .f32) (s : Fin 3072) (n : Fin 8192) :
    k0_pay3 x0 x2 x1 x3 (ix2 s n) = sqAct (fun k => x0 (ix2 s k)) (x1 (ix2 s 0)) (fun n k => x2 (ix2 n k)) (fun n => x3 (ix2 0 n)) n := by
  unfold sqAct dot
  pointwise [k0_pay3]

/-- The cast. -/
theorem pay1_apply (v : FVec Ideal S3072x8192 .f32) (i : S3072x8192.Idx) : k0_pay1 v i = v i := rfl

/-- A column spread over the channels. -/
theorem spread_apply (e : FVec Ideal S3072x1 .f32) (s : Fin 3072) (n : Fin 8192) :
    broadcastTo S3072x8192 e broadcasts_S3072x1_S3072x8192 (ix2 s n) = e (ix2 s 0) := by
  pointwise

/-- The scaling by the row's power of two, the power still a column, and the clip. -/
theorem pay5_apply (x0 : Vec Ideal S3072x1024 .fp8e4m3) (x2 : Vec Ideal S8192x1024 .fp8e4m3) (x1 : Vec Ideal S3072x1 .f32) (x3 : Vec Ideal S1x8192 .f32) (i : S3072x8192.Idx) :
    k0_pay5 x0 x2 x1 x3 i = clip (k0_pay3 x0 x2 x1 x3 i * broadcastTo S3072x8192 (exp2 (subf (broadcast S3072x1 (Scalar.ofBits .f32 0x00000000#32)) (k0_pay4 x0 x2 x1 x3))) broadcasts_S3072x1_S3072x8192 i) := by
  unfold k0_pay5
  rfl

/-- The negated exponent's power of two. -/
theorem inv_apply (e : FVec Ideal S3072x1 .f32) (i : S3072x1.Idx) :
    exp2 (subf (broadcast S3072x1 (Scalar.ofBits .f32 0x00000000#32)) e) i = Ideal.exp2 (0 - e i) := by
  pointwise
  rfl

/-- A row's largest entry. -/
theorem red_apply (y : FVec Ideal S3072x8192 .f32) (s : Fin 3072) :
    shapeCast S3072x1 (multiReduction .maximumf [1] S3072 y 0xFF800000#32 reduces_S3072x8192_S3072 (.inl rfl) rfl) shapeCasts_S3072_S3072x1 (ix2 s 0)
      = Finset.fold max (Ideal.ofBits FTy.f32 4286578688#32) (fun n : Fin 8192 => y (ix2 s n)) Finset.univ := by
  pointwise

/-- The exponent of a column of row maxima. -/
theorem exp_apply (v18 : FVec Ideal S3072x1 .f32) (i : S3072x1.Idx) :
    (let v20 : FVec Ideal S3072x1 .f32 := mulf v18 (broadcast S3072x1 (Scalar.ofBits .f32 0x37924925#32))
     select (cmpf .oeq v18 (broadcast S3072x1 (Scalar.ofBits .f32 0x00000000#32))) (broadcast S3072x1 (Scalar.ofBits .f32 0x00000000#32))
      (addf (floor (divf (log v20) (log (broadcast S3072x1 (Scalar.ofBits .f32 0x40000000#32))))) (broadcast S3072x1 (Scalar.ofBits .f32 0x3F800000#32))) : FVec Ideal S3072x1 .f32) i
      = refExpo (v18 i) := by
  unfold refExpo
  pointwise

/-- The reference's exponent at a row. -/
theorem pay4_col (x0 : Vec Ideal S3072x1024 .fp8e4m3) (x2 : Vec Ideal S8192x1024 .fp8e4m3) (x1 : Vec Ideal S3072x1 .f32) (x3 : Vec Ideal S1x8192 .f32) (i : S3072x1.Idx) :
    k0_pay4 x0 x2 x1 x3 i = refExpo (shapeCast S3072x1 (multiReduction .maximumf [1] S3072 (absf (k0_pay3 x0 x2 x1 x3)) 0xFF800000#32 reduces_S3072x8192_S3072 (.inl rfl) rfl) shapeCasts_S3072_S3072x1 i) := by
  unfold k0_pay4
  exact exp_apply _ i

theorem absf_apply (y : FVec Ideal S3072x8192 .f32) (i : S3072x8192.Idx) : absf y i = max (y i) (-(y i)) := rfl

theorem neg_inf : Ideal.ofBits FTy.f32 4286578688#32 = ⊥ := by simp [Ideal.ofBits, Ideal.ieee]

theorem pay4_apply (x0 : Vec Ideal S3072x1024 .fp8e4m3) (x2 : Vec Ideal S8192x1024 .fp8e4m3) (x1 : Vec Ideal S3072x1 .f32) (x3 : Vec Ideal S1x8192 .f32) (s : Fin 3072) :
    k0_pay4 x0 x2 x1 x3 (ix2 s 0) = refExpo (top (fun k => x0 (ix2 s k)) (x1 (ix2 s 0)) (fun n k => x2 (ix2 n k)) (fun n => x3 (ix2 0 n))) := by
  rw [pay4_col, red_apply, neg_inf]
  simp only [absf_apply, pay3_apply]
  rfl

theorem pay2_apply (e : FVec Ideal S3072x1 .f32) (s : Fin 3072) : k0_pay2 e (ix2 0 s) = Ideal.exp2 (e (ix2 s 0)) := by
  pointwise [k0_pay2]
  rfl

/-- The stored codes. -/
theorem codes_apply (x0 : Vec Ideal S3072x1024 .fp8e4m3) (x2 : Vec Ideal S8192x1024 .fp8e4m3) (x1 : Vec Ideal S3072x1 .f32) (x3 : Vec Ideal S1x8192 .f32) (s : Fin 3072) (n : Fin 8192) :
    k0_pay1 (k0_pay5 x0 x2 x1 x3) (ix2 s n) = rCode (fun k => x0 (ix2 s k)) (x1 (ix2 s 0)) (fun n k => x2 (ix2 n k)) (fun n => x3 (ix2 0 n)) n := by
  rw [pay1_apply, pay5_apply, spread_apply, inv_apply, pay4_apply, pay3_apply]
  rfl

/-- The stored row scales. -/
theorem scales_apply (x0 : Vec Ideal S3072x1024 .fp8e4m3) (x2 : Vec Ideal S8192x1024 .fp8e4m3) (x1 : Vec Ideal S3072x1 .f32) (x3 : Vec Ideal S1x8192 .f32) (s : Fin 3072) :
    k0_pay2 (k0_pay4 x0 x2 x1 x3) (ix2 0 s) = rScale (fun k => x0 (ix2 s k)) (x1 (ix2 s 0)) (fun n k => x2 (ix2 n k)) (fun n => x3 (ix2 0 n)) := by
  rw [pay2_apply, pay4_apply]
  rfl

end Cert.ReferenceIdeal.Gen

end
-- ==== Proof.RefArray.lean ====
/- What the reference's two result arrays hold after its run, and the run itself. -/
module

public import proofs.«01_k».proof.Proof.Gen.ReferenceIdeal.Frame
public import proofs.«01_k».proof.Proof.Row
public import proofs.«01_k».proof.Proof.RefRows
public import Idealize.ShloMosaic.Lib.Pointwise
public import Idealize.ShloMosaic.Lib.Pipeline.ValueKit
public import Idealize.ShloMosaic.Lib.Pipeline.ReadBack
public import Idealize.ShloMosaic.Lib.ValueLayout
public import Idealize.ShloMosaic.Lib.StableHlo.ReadAt

@[expose] public section

set_option maxRecDepth 16384

noncomputable section

namespace Cert.ReferenceIdeal.Gen

open Cert.Sq Idealize.ShloMosaic Idealize.SL.Sem Idealize.ShloMosaic.TcCoe

variable (m : (ℓ : Loc nD τ sig) → Buf (Elt Ideal) ℓ) (ρ : Dev nD → PrngReg)

/-- The four arrays as the launch finds them: activations, row scales, weights, channel scales. -/
abbrev rX (c : Dev nD) : Vec Ideal S3072x1024 .fp8e4m3 := V m c main_v2
abbrev rXs (c : Dev nD) : Vec Ideal S3072x1 .f32 := V m c main_v3
abbrev rW (c : Dev nD) : Vec Ideal S8192x1024 .fp8e4m3 := V m c main_v1
abbrev rWs (c : Dev nD) : Vec Ideal S1x8192 .f32 := V m c main_v4

/-- Every window's block is at index zero. -/
theorem idx0 : ∀ t : Fin cfg0.N, win0_0.index t = ![0, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![0, 0] := (by decide +kernel : ∀ t : Fin grid0.N, _)

theorem hz : (![0, 0] : Fin 2 → Nat) = fun _ => 0 := funext fun a => by fin_cases a <;> rfl

/-- So each input's block is its array. -/
theorem iblk0 (c : Dev nD) (t : Fin cfg0.N) : iblk m c 0 t = rX m c := by
  funext j
  blk_simp [iblk]
  refine congrArg (V m c main_v2) ?_
  blk_ext [idx0]

theorem iblk1 (c : Dev nD) (t : Fin cfg0.N) : iblk m c 1 t = rXs m c := by
  funext j
  blk_simp [iblk]
  refine congrArg (V m c main_v3) ?_
  blk_ext [idx1]

theorem iblk2 (c : Dev nD) (t : Fin cfg0.N) : iblk m c 2 t = rW m c := by
  funext j
  blk_simp [iblk]
  refine congrArg (V m c main_v1) ?_
  blk_ext [idx2]

theorem iblk3 (c : Dev nD) (t : Fin cfg0.N) : iblk m c 3 t = rWs m c := by
  funext j
  blk_simp [iblk]
  refine congrArg (V m c main_v4) ?_
  blk_ext [idx3]

/-- The codes' array. -/
def arr4 (c : Dev nD) : Vec Ideal S3072x8192 .fp8e5m2 := fun y =>
  rCode (fun k => rX m c (ix2 (y 0) k)) (rXs m c (ix2 (y 0) 0)) (fun n k => rW m c (ix2 n k)) (fun n => rWs m c (ix2 0 n)) (y 1)

/-- The scales' array. -/
def arr5 (c : Dev nD) : Vec Ideal S1x3072 .f32 := fun y =>
  rScale (fun k => rX m c (ix2 (y 1) k)) (rXs m c (ix2 (y 1) 0)) (fun n k => rW m c (ix2 n k)) (fun n => rWs m c (ix2 0 n))

theorem emb4 (t : Fin cfg0.N) (y : S3072x8192.Idx) : ((cfg0.win 4).blk t).view.emb y = y := by
  blk_ext [idx4]

theorem emb5 (t : Fin cfg0.N) (y : S1x3072.Idx) : ((cfg0.win 5).blk t).view.emb y = y := by
  blk_ext [idx5]

theorem out4_apply (x0 : Vec Ideal S3072x1024 .fp8e4m3) (x1 : Vec Ideal S3072x1 .f32) (x2 : Vec Ideal S8192x1024 .fp8e4m3) (x3 : Vec Ideal S1x8192 .f32) :
    out0_4 x0 x1 x2 x3 = k0_pay1 (k0_pay5 x0 x2 x1 x3) := by
  unfold out0_4
  rw [View.canon_unit_zero hz, View.ld_unit_zero hz, View.ld_unit_zero hz, View.ld_unit_zero hz, View.ld_unit_zero hz]

theorem out5_apply (x0 : Vec Ideal S3072x1024 .fp8e4m3) (x1 : Vec Ideal S3072x1 .f32) (x2 : Vec Ideal S8192x1024 .fp8e4m3) (x3 : Vec Ideal S1x8192 .f32) :
    out0_5 x0 x1 x2 x3 = k0_pay2 (k0_pay4 x0 x2 x1 x3) := by
  unfold out0_5
  rw [View.canon_unit_zero hz, View.ld_unit_zero hz, View.ld_unit_zero hz, View.ld_unit_zero hz, View.ld_unit_zero hz]

theorem split4 (y : S3072x8192.Idx) : y = ix2 (y 0) (y 1) := by
  funext a
  match a with
  | ⟨0, _⟩ => rfl
  | ⟨1, _⟩ => rfl

theorem split5 (y : S1x3072.Idx) : y = ix2 0 (y 1) := by
  funext a
  match a with
  | ⟨0, _⟩ => exact Subsingleton.elim (α := Fin 1) _ _
  | ⟨1, _⟩ => rfl

theorem final4 (c : Dev nD) : (dats m 0 c).arrAt 4 cfg0.N = arr4 m c := by
  refine (dats m 0 c).arrAt_eq_of_covers 4 _ (by decide +kernel) fun t hf y => ?_
  have key : (dats m 0 c).after 4 t y = arr4 m c (((cfg0.win 4).blk t).view.emb y) := by
    rw [after0_4, iblk0, iblk1, iblk2, iblk3, out4_apply, emb4]
    exact (congrArg _ (split4 y)).trans (codes_apply _ _ _ _ (y 0) (y 1))
  exact key

theorem final5 (c : Dev nD) : (dats m 0 c).arrAt 5 cfg0.N = arr5 m c := by
  refine (dats m 0 c).arrAt_eq_of_covers 5 _ (by decide +kernel) fun t hf y => ?_
  have key : (dats m 0 c).after 5 t y = arr5 m c (((cfg0.win 5).blk t).view.emb y) := by
    rw [after0_5, iblk0, iblk1, iblk2, iblk3, out5_apply, emb5]
    exact (congrArg _ (split5 y)).trans (scales_apply _ _ _ _ (y 1))
  exact key

/-- The activations: the bytes of the first argument. -/
theorem rX_apply (c : Dev nD) (s : Fin 3072) (k : Fin 1024) :
    rX m c (ix2 s k) = Ideal.ofBits .fp8e4m3 (m ((c : Thread nD τ).loc main_arg0) (ix3 0 s k)) := by
  unfold rX V
  after_reads_at

theorem rW_apply (c : Dev nD) (n : Fin 8192) (k : Fin 1024) :
    rW m c (ix2 n k) = Ideal.ofBits .fp8e4m3 (m ((c : Thread nD τ).loc main_arg2) (ix2 n k)) := by
  unfold rW V
  after_reads_at

theorem rXs_apply (c : Dev nD) (s : Fin 3072) : rXs m c (ix2 s 0) = m ((c : Thread nD τ).loc main_arg1) (ix2 0 s) := by
  unfold rXs V
  after_reads_at

theorem rWs_apply (c : Dev nD) (n : Fin 8192) : rWs m c (ix2 0 n) = m ((c : Thread nD τ).loc main_arg3) (ix1 n) := by
  unfold rWs V
  after_reads_at

theorem kept0 (r : PUnit × MemSt nD τ sig (Elt Ideal)) (h : Pipeline.FramePost cfgs (dats m) 0 (V m) r) (c : Dev nD) :
    r.2.mem ((c : Thread nD τ).loc main_arg0) = m ((c : Thread nD τ).loc main_arg0) :=
  ((h c).2 main_arg0 (Pipeline.mem_restRefs_of main_arg0 (by decide) (by decide))).trans (V_main_arg0 m c)
theorem kept1 (r : PUnit × MemSt nD τ sig (Elt Ideal)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)
theorem kept2 (r : PUnit × MemSt nD τ sig (Elt Ideal)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)
theorem kept3 (r : PUnit × MemSt nD τ sig (Elt Ideal)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

/-- The reference's run: both results, and the arguments unchanged. -/
theorem run : θ_run defs (onTc (τ := τ) (main (F := Ideal))) ⟨m, fun _ => 0, ρ⟩ fun r => ∀ c : Dev nD,
      r.2.mem ((c : Thread nD τ).loc main_v5_0) = arr4 m c
      ∧ r.2.mem ((c : Thread nD τ).loc main_v5_1) = arr5 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨((h c).1 4).trans (final4 m c), ((h c).1 5).trans (final5 m c),
    kept0 m r h c, kept1 m r h c, kept2 m r h c, kept3 m r h c⟩) (run_main m ρ)

end Cert.ReferenceIdeal.Gen

end
-- ==== Proof.Equation.lean ====
/- The two programs' result arrays are equal where the arguments are and the precondition holds. -/
module

public import proofs.«01_k».proof.Proof.Inputs
public import proofs.«01_k».proof.Proof.RowEq
public import proofs.«01_k».proof.Proof.KernelArray
public import proofs.«01_k».proof.Proof.RefArray

@[expose] public section

set_option maxRecDepth 16384

noncomputable section

namespace Cert.Sq

open Idealize.ShloMosaic Idealize.SL.Sem Idealize.ShloMosaic.TcCoe

variable (m : (ℓ : Loc KernelIdeal.nD KernelIdeal.τ KernelIdeal.sig) → Buf (Elt Ideal) ℓ)
variable (m' : (ℓ : Loc ReferenceIdeal.nD ReferenceIdeal.τ ReferenceIdeal.sig) → Buf (Elt Ideal) ℓ)

theorem rCode_congr {x x' : Fin 1024 → EReal} {xs xs' : EReal} {w w' : Fin 8192 → Fin 1024 → EReal} {ws ws' : Fin 8192 → EReal}
    (e0 : x = x') (e1 : xs = xs') (e2 : w = w') (e3 : ws = ws') (n : Fin 8192) : rCode x xs w ws n = rCode x' xs' w' ws' n := by
  rw [e0, e1, e2, e3]

theorem rScale_congr {x x' : Fin 1024 → EReal} {xs xs' : EReal} {w w' : Fin 8192 → Fin 1024 → EReal} {ws ws' : Fin 8192 → EReal}
    (e0 : x = x') (e1 : xs = xs') (e2 : w = w') (e3 : ws = ws') : rScale x xs w ws = rScale x' xs' w' ws' := by
  rw [e0, e1, e2, e3]

/-- The precondition makes every row one that the row equation speaks of. -/
theorem ok_of_pre (h : Pre_KernelIdeal_finite_inputs m) (c : Dev KernelIdeal.nD) (s : Fin 3072) :
    Ok (fun k => KernelIdeal.Gen.aX m c (ix2 s k)) (KernelIdeal.Gen.aXs m c (ix2 0 s))
      (fun n k => KernelIdeal.Gen.aW m c (ix2 n k)) (fun n => KernelIdeal.Gen.aWs m c (ix2 0 n)) := by
  obtain ⟨p0, p1, p2, p3, p4⟩ := h c
  refine ⟨fun k => ?_, fun n k => ?_, ?_, fun n => ?_, fun n => ?_⟩
  · rw [KernelIdeal.Gen.aX_apply]
    obtain ⟨h1, h2⟩ := Pre_finite_inputs.Gen.mask0 _ _ _ _ (ix3 0 s k) (congrFun p0 _)
    exact e4m3_bound _ h1 h2
  · rw [KernelIdeal.Gen.aW_apply]
    obtain ⟨h1, h2⟩ := Pre_finite_inputs.Gen.mask1 _ _ _ _ (ix2 n k) (congrFun p1 _)
    exact e4m3_bound _ h1 h2
  · rw [KernelIdeal.Gen.aXs_apply]
    exact Pre_finite_inputs.Gen.mask2 _ _ _ _ s (congrFun p2 _)
  · rw [KernelIdeal.Gen.aXs_apply, KernelIdeal.Gen.aWs_apply, ← f32_big]
    exact Pre_finite_inputs.Gen.mask3 _ _ _ _ s n (congrFun p3 _)
  · rw [KernelIdeal.Gen.aXs_apply, KernelIdeal.Gen.aWs_apply, ← f32_small]
    exact Pre_finite_inputs.Gen.mask4 _ _ _ _ s n (congrFun p4 _)

/-- The two programs find the same arrays. -/
theorem same (c : Dev KernelIdeal.nD)
    (e0 : m' ((c : Thread ReferenceIdeal.nD ReferenceIdeal.τ).loc ReferenceIdeal.main_arg0) = m ((c : Thread KernelIdeal.nD KernelIdeal.τ).loc KernelIdeal.main_arg0))
    (e1 : m' ((c : Thread ReferenceIdeal.nD ReferenceIdeal.τ).loc ReferenceIdeal.main_arg1) = m ((c : Thread KernelIdeal.nD KernelIdeal.τ).loc KernelIdeal.main_arg1))
    (e2 : m' ((c : Thread ReferenceIdeal.nD ReferenceIdeal.τ).loc ReferenceIdeal.main_arg2) = m ((c : Thread KernelIdeal.nD KernelIdeal.τ).loc KernelIdeal.main_arg2))
    (e3 : m' ((c : Thread ReferenceIdeal.nD ReferenceIdeal.τ).loc ReferenceIdeal.main_arg3) = m ((c : Thread KernelIdeal.nD KernelIdeal.τ).loc KernelIdeal.main_arg3)) :
    (∀ s k, ReferenceIdeal.Gen.rX m' c (ix2 s k) = KernelIdeal.Gen.aX m c (ix2 s k))
    ∧ (∀ s, ReferenceIdeal.Gen.rXs m' c (ix2 s 0) = KernelIdeal.Gen.aXs m c (ix2 0 s))
    ∧ (∀ n k, ReferenceIdeal.Gen.rW m' c (ix2 n k) = KernelIdeal.Gen.aW m c (ix2 n k))
    ∧ (∀ n, ReferenceIdeal.Gen.rWs m' c (ix2 0 n) = KernelIdeal.Gen.aWs m c (ix2 0 n)) := by
  refine ⟨fun s k => ?_, fun s => ?_, fun n k => ?_, fun n => ?_⟩
  · rw [ReferenceIdeal.Gen.rX_apply, KernelIdeal.Gen.aX_apply]
    exact congrArg (fun v : BitVec 8 => Ideal.ofBits .fp8e4m3 v) (congrFun e0 _)
  · rw [ReferenceIdeal.Gen.rXs_apply, KernelIdeal.Gen.aXs_apply]
    exact congrFun e1 _
  · rw [ReferenceIdeal.Gen.rW_apply, KernelIdeal.Gen.aW_apply]
    exact congrArg (fun v : BitVec 8 => Ideal.ofBits .fp8e4m3 v) (congrFun e2 _)
  · rw [ReferenceIdeal.Gen.rWs_apply, KernelIdeal.Gen.aWs_apply]
    exact congrFun e3 _

/-- So both result arrays are equal. -/
theorem arrays_eq (h : Pre_KernelIdeal_finite_inputs m) (c : Dev KernelIdeal.nD)
    (e0 : m' ((c : Thread ReferenceIdeal.nD ReferenceIdeal.τ).loc ReferenceIdeal.main_arg0) = m ((c : Thread KernelIdeal.nD KernelIdeal.τ).loc KernelIdeal.main_arg0))
    (e1 : m' ((c : Thread ReferenceIdeal.nD ReferenceIdeal.τ).loc ReferenceIdeal.main_arg1) = m ((c : Thread KernelIdeal.nD KernelIdeal.τ).loc KernelIdeal.main_arg1))
    (e2 : m' ((c : Thread ReferenceIdeal.nD ReferenceIdeal.τ).loc ReferenceIdeal.main_arg2) = m ((c : Thread KernelIdeal.nD KernelIdeal.τ).loc KernelIdeal.main_arg2))
    (e3 : m' ((c : Thread ReferenceIdeal.nD ReferenceIdeal.τ).loc ReferenceIdeal.main_arg3) = m ((c : Thread KernelIdeal.nD KernelIdeal.τ).loc KernelIdeal.main_arg3)) :
    ReferenceIdeal.Gen.arr4 m' c = KernelIdeal.Gen.arr4 m c ∧ ReferenceIdeal.Gen.arr5 m' c = KernelIdeal.Gen.arr5 m c := by
  obtain ⟨q0, q1, q2, q3⟩ := same m m' c e0 e1 e2 e3
  constructor
  · funext y
    exact (rCode_congr (funext fun k => q0 (y 0) k) (q1 (y 0)) (funext fun n => funext fun k => q2 n k) (funext q3) (y 1)).trans
      (code_eq (ok_of_pre m h c (y 0)) (y 1)).symm
  · funext y
    exact (rScale_congr (funext fun k => q0 (y 1) k) (q1 (y 1)) (funext fun n => funext fun k => q2 n k) (funext q3)).trans
      (scale_eq (ok_of_pre m h c (y 1))).symm

end Cert.Sq

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.Pre_finite_inputs
public import proofs.«01_k».proof.Proof.Equation
public import Idealize.ShloMosaic.Adequacy
public import Idealize.ShloMosaic.Init

@[expose] public section

noncomputable section

namespace Cert.Proof

open Idealize.ShloMosaic Idealize.SL.Sem Cert.Kernel

/-- The value claim: both runs end at the kernel's two arrays. -/
theorem value : Cert.algebraic_KernelIdeal_ReferenceIdeal_pre_finite_inputs := by
  intro m g m' g' hpre hargs
  refine ⟨fun c => KernelIdeal.Gen.arr4 m c, fun c => KernelIdeal.Gen.arr5 m c, ?_, ?_⟩
  · refine (θ_run KernelIdeal.defs _ _).mono (fun r h c => ?_) (KernelIdeal.Value.run_blocks m g)
    obtain ⟨h4, h5, hr⟩ := h c
    exact ⟨h4.trans (KernelIdeal.Gen.final4 m c), h5.trans (KernelIdeal.Gen.final5 m c), hr⟩
  · refine (θ_run ReferenceIdeal.defs _ _).mono (fun r h c => ?_) (ReferenceIdeal.Gen.run m' g')
    obtain ⟨e0, e1, e2, e3⟩ := hargs c
    obtain ⟨a4, a5⟩ := Cert.Sq.arrays_eq m m' hpre c e0 e1 e2 e3
    obtain ⟨h4, h5, hr⟩ := h c
    exact ⟨h4.trans a4, h5.trans a5, hr⟩

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => Cert.KernelIdeal.Gen.frame m ρ,
  fun m ρ _ => Cert.ReferenceIdeal.Gen.frame m ρ,
  fun m ρ _ => Cert.ReferenceIdeal.Gen.frame m ρ,
  trivial, value⟩

end Cert.Proof

end
